-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 [hPre_experts : Cert.Pre_experts.Facts] (m : (ℓ : Loc Cert.Kernel3.nD Cert.Kernel3.τ Cert.Kernel3.sig) → Buf (Elt Bits) ℓ) : Prop :=
  ∀ c : Dev Cert.Kernel3.nD,
    (Cert.Pre_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_experts : Cert.Pre_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts [hPre_experts : Cert.Pre_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_experts : Cert.Pre_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_experts [hReference3Ideal : Cert.Reference3Ideal.Facts] [hPre_experts : Cert.Pre_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3) (hPre_experts := hPre_experts)
    ∧ quiescent_Kernel3Ideal (hKernel3Ideal := hKernel3Ideal) (hPre_experts := hPre_experts)
    ∧ quiescent_Reference3Ideal (hReference3Ideal := hReference3Ideal)
    ∧ quiescent_Reference3Ideal_pre_experts (hReference3Ideal := hReference3Ideal) (hPre_experts := hPre_experts)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal) (hPre_experts := hPre_experts)
    ∧ preserves_Kernel4_Kernel4Ideal
    ∧ algebraic_Kernel4Ideal_Reference4Ideal (hKernel4Ideal := hKernel4Ideal) (hReference4Ideal := hReference4Ideal)
-- ==== Pre_experts.lean ====
abbrev S163840x1024 : Shape := ⟨2, ![163840, 1024]⟩
abbrev S320 : Shape := ⟨1, ![320]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S320 : S_.BroadcastsInDim S320 (![] : Fin 0 → Fin S320.rank)

variable [Facts]

def fn {F : FTy → Type} [FloatOps F] (main_arg0 : FVec F S163840x1024 .f32) (main_arg1 : IVec S320 32) (main_arg2 : IVec S1 32) (main_arg3 : FVec F S2x32x1024x2048 .f32) (main_arg4 : FVec F S2x32x2048 .f32) (main_arg5 : FVec F S2x32x1024x1024 .f32) (main_arg6 : FVec F S2x32x1024 .f32) : IVec S320 1 :=
  let main_c : IVec S_ 32 := constantI S_ 32 0#32
  let main_v0 : IVec S320 32 := broadcastInDim S320 ![] bcast_S_S320 main_c
  let main_v1 : IVec S320 1 := cmpi .sge main_arg1 main_v0
  let main_c_0 : IVec S_ 32 := constantI S_ 32 32#32
  let main_v2 : IVec S320 32 := broadcastInDim S320 ![] bcast_S_S320 main_c_0
  let main_v3 : IVec S320 1 := cmpi .slt main_arg1 main_v2
  let main_v4 : IVec S320 1 := andi main_v1 main_v3
  main_v4
-- ==== Pre_finite.lean ====
abbrev S36864x1024 : Shape := ⟨2, ![36864, 1024]⟩
abbrev S8x1x512x8x128 : Shape := ⟨5, ![8, 1, 512, 8, 128]⟩
abbrev S1x64 : Shape := ⟨2, ![1, 64]⟩
abbrev S1x128 : Shape := ⟨2, ![1, 128]⟩
abbrev S_ : Shape := ⟨0, ![]⟩

class Facts : Prop where
  bcast_S_S36864x1024 : S_.BroadcastsInDim S36864x1024 (![] : Fin 0 → Fin S36864x1024.rank)
  bcast_S_S8x1x512x8x128 : S_.BroadcastsInDim S8x1x512x8x128 (![] : Fin 0 → Fin S8x1x512x8x128.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_arg8 : FVec F S1x64 .f32) (main_v2 : IVec S36864x1024 1) (main_v5 : IVec S36864x1024 1) (main_v8 : IVec S36864x1024 1) (main_v11 : IVec S8x1x512x8x128 1) (main_v14 : IVec S8x1x512x8x128 1) (main_v17 : IVec S1x64 1) : IVec S36864x1024 1 × IVec S36864x1024 1 × IVec S36864x1024 1 × IVec S8x1x512x8x128 1 × IVec S8x1x512x8x128 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_v24 : FVec F S1x64 .f32 := Host.absf main_arg8
  let main_cst_7 : FVec F S_ .f32 := constant S_ .f32 0x7F800000#32
  let main_v25 : FVec F S1x64 .f32 := broadcastInDim S1x64 ![] bcast_S_S1x64 main_cst_7
  let main_v26 : IVec S1x64 1 := cmpf .olt main_v24 main_v25
  (main_v2, main_v5, main_v8, main_v11, main_v14, main_v17, main_v20, main_v23, main_v26)

def fn {F : FTy → Type} [FloatOps F] (main_arg0 : FVec F S36864x1024 .f32) (main_arg1 : FVec F S36864x1024 .f32) (main_arg2 : FVec F S36864x1024 .f32) (main_arg3 : FVec F S8x1x512x8x128 .f32) (main_arg4 : FVec F S8x1x512x8x128 .f32) (main_arg5 : FVec F S1x64 .f32) (main_arg6 : FVec F S1x64 .f32) (main_arg7 : FVec F S1x64 .f32) (main_arg8 : FVec F S1x64 .f32) (main_arg9 : FVec F S1x128 .f32) : IVec S36864x1024 1 × IVec S36864x1024 1 × IVec S36864x1024 1 × IVec S8x1x512x8x128 1 × IVec S8x1x512x8x128 1 × IVec S1x64 1 × IVec S1x64 1 × IVec S1x64 1 × IVec S1x64 1 :=
  let main_v0 : FVec F S36864x1024 .f32 := Host.absf main_arg0
  let main_cst : FVec F S_ .f32 := constant S_ .f32 0x7F800000#32
  let main_v1 : FVec F S36864x1024 .f32 := broadcastInDim S36864x1024 ![] bcast_S_S36864x1024 main_cst
  let main_v2 : IVec S36864x1024 1 := cmpf .olt main_v0 main_v1
  let main_v3 : FVec F S36864x1024 .f32 := Host.absf main_arg1
  let main_cst_0 : FVec F S_ .f32 := constant S_ .f32 0x7F800000#32
  let main_v4 : FVec F S36864x1024 .f32 := broadcastInDim S36864x1024 ![] bcast_S_S36864x1024 main_cst_0
  let main_v5 : IVec S36864x1024 1 := cmpf .olt main_v3 main_v4
  let main_v6 : FVec F S36864x1024 .f32 := Host.absf main_arg2
  let main_cst_1 : FVec F S_ .f32 := constant S_ .f32 0x7F800000#32
  let main_v7 : FVec F S36864x1024 .f32 := broadcastInDim S36864x1024 ![] bcast_S_S36864x1024 main_cst_1
  let main_v8 : IVec S36864x1024 1 := cmpf .olt main_v6 main_v7
  let main_v9 : FVec F S8x1x512x8x128 .f32 := Host.absf main_arg3
  let main_cst_2 : FVec F S_ .f32 := constant S_ .f32 0x7F800000#32
  let main_v10 : FVec F S8x1x512x8x128 .f32 := broadcastInDim S8x1x512x8x128 ![] bcast_S_S8x1x512x8x128 main_cst_2
  let main_v11 : IVec S8x1x512x8x128 1 := cmpf .olt main_v9 main_v10
  let main_v12 : FVec F S8x1x512x8x128 .f32 := Host.absf main_arg4
  let main_cst_3 : FVec F S_ .f32 := constant S_ .f32 0x7F800000#32
  let main_v13 : FVec F S8x1x512x8x128 .f32 := broadcastInDim S8x1x512x8x128 ![] bcast_S_S8x1x512x8x128 main_cst_3
  let main_v14 : IVec S8x1x512x8x128 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_arg7 main_arg8 main_v2 main_v5 main_v8 main_v11 main_v14 main_v17
-- ==== Kernel.lean ====
abbrev S36864x1024 : Shape := ⟨2, ![36864, 1024]⟩
abbrev S8x1x512x8x128 : Shape := ⟨5, ![8, 1, 512, 8, 128]⟩
abbrev S1x64 : Shape := ⟨2, ![1, 64]⟩
abbrev S1x128 : Shape := ⟨2, ![1, 128]⟩
abbrev S_ : Shape := ⟨0, ![]⟩
abbrev S8x128 : Shape := ⟨2, ![8, 128]⟩
abbrev S64 : Shape := ⟨1, ![64]⟩
abbrev S4x64 : Shape := ⟨2, ![4, 64]⟩
abbrev S1 : Shape := ⟨1, ![1]⟩
abbrev S2 : Shape := ⟨1, ![2]⟩
abbrev S32768x1024 : Shape := ⟨2, ![32768, 1024]⟩
abbrev S8x4096x1024 : Shape := ⟨3, ![8, 4096, 1024]⟩
abbrev S8x512x8x128 : Shape := ⟨4, ![8, 512, 8, 128]⟩
abbrev S8x512x1024 : Shape := ⟨3, ![8, 512, 1024]⟩
abbrev S8x4608x1024 : Shape := ⟨3, ![8, 4608, 1024]⟩
abbrev S8x1024x4608 : Shape := ⟨3, ![8, 1024, 4608]⟩
abbrev S128 : Shape := ⟨1, ![128]⟩
abbrev S512x128 : Shape := ⟨2, ![512, 128]⟩
abbrev S1x128x4608 : Shape := ⟨3, ![1, 128, 4608]⟩
abbrev S1x4608x128 : Shape := ⟨3, ![1, 4608, 128]⟩
abbrev S4608x256 : Shape := ⟨2, ![4608, 256]⟩
abbrev S4608x128 : Shape := ⟨2, ![4608, 128]⟩
abbrev S1x1 : Shape := ⟨2, ![1, 1]⟩
abbrev S1024x128 : Shape := ⟨2, ![1024, 128]⟩
abbrev S1024x1 : Shape := ⟨2, ![1024, 1]⟩
abbrev S1024x256 : Shape := ⟨2, ![1024, 256]⟩
abbrev S1x128x512 : Shape := ⟨3, ![1, 128, 512]⟩
abbrev S128x512 : Shape := ⟨2, ![128, 512]⟩
abbrev S1024x512 : Shape := ⟨2, ![1024, 512]⟩
abbrev S1024 : Shape := ⟨1, ![1024]⟩
abbrev S512x256 : Shape := ⟨2, ![512, 256]⟩
abbrev S512 : Shape := ⟨1, ![512]⟩
abbrev S512x1 : Shape := ⟨2, ![512, 1]⟩

abbrev nBuf : Space → Nat
  | .hbm => 45
  | .vmem => 11
  | .smem => 0
  | _ => 0

abbrev bufTy : (tb : Table) → Fin (tcTables nBuf tb) → BufTy
  | .hbm, ⟨0, _⟩ => ⟨S36864x1024, .f32⟩
  | .hbm, ⟨1, _⟩ => ⟨S36864x1024, .f32⟩
  | .hbm, ⟨2, _⟩ => ⟨S36864x1024, .f32⟩
  | .hbm, ⟨3, _⟩ => ⟨S8x1x512x8x128, .f32⟩
  | .hbm, ⟨4, _⟩ => ⟨S8x1x512x8x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S36864x1024, .bf16⟩
  | .hbm, ⟨11, _⟩ => ⟨S36864x1024, .bf16⟩
  | .hbm, ⟨12, _⟩ => ⟨S_, .f32⟩
  | .hbm, ⟨13, _⟩ => ⟨S8x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S4x64, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S8x128, .f32⟩
  | .hbm, ⟨29, _⟩ => ⟨S32768x1024, .bf16⟩
  | .hbm, ⟨30, _⟩ => ⟨S8x4096x1024, .bf16⟩
  | .hbm, ⟨31, _⟩ => ⟨S8x512x8x128, .f32⟩
  | .hbm, ⟨32, _⟩ => ⟨S8x512x1024, .f32⟩
  | .hbm, ⟨33, _⟩ => ⟨S8x512x1024, .bf16⟩
  | .hbm, ⟨34, _⟩ => ⟨S8x4608x1024, .bf16⟩
  | .hbm, ⟨35, _⟩ => ⟨S8x1024x4608, .bf16⟩
  | .hbm, ⟨36, _⟩ => ⟨S32768x1024, .bf16⟩
  | .hbm, ⟨37, _⟩ => ⟨S8x4096x1024, .bf16⟩
  | .hbm, ⟨38, _⟩ => ⟨S8x512x8x128, .f32⟩
  | .hbm, ⟨39, _⟩ => ⟨S8x512x1024, .f32⟩
  | .hbm, ⟨40, _⟩ => ⟨S8x512x1024, .bf16⟩
  | .hbm, ⟨41, _⟩ => ⟨S8x4608x1024, .bf16⟩
  | .hbm, ⟨42, _⟩ => ⟨S128, .f32⟩
  | .hbm, ⟨43, _⟩ => ⟨S1x128, .f32⟩
  | .hbm, ⟨44, _⟩ => ⟨S32768x1024, .bf16⟩
  | .local _ .vmem, ⟨0, _⟩ => ⟨S8x128, .f32⟩
  | .local _ .vmem, ⟨1, _⟩ => ⟨S512x128, .f32⟩
  | .local _ .vmem, ⟨2, _⟩ => ⟨S512x128, .f32⟩
  | .local _ .vmem, ⟨3, _⟩ => ⟨S1x128x4608, .bf16⟩
  | .local _ .vmem, ⟨4, _⟩ => ⟨S1x128x4608, .bf16⟩
  | .local _ .vmem, ⟨5, _⟩ => ⟨S1x4608x128, .bf16⟩
  | .local _ .vmem, ⟨6, _⟩ => ⟨S1x4608x128, .bf16⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S4608x256, .bf16⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi c8_i32_0 v0
  let v2 : BitVec 32 := Scalar.addi v1 arg2
  let c0_i32 : BitVec 32 := 0#32
  ![v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4608x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S36864x1024 : Shape := ⟨2, ![36864, 1024]⟩
abbrev S8x1x512x8x128 : Shape := ⟨5, ![8, 1, 512, 8, 128]⟩
abbrev S1x64 : Shape := ⟨2, ![1, 64]⟩
abbrev S1x128 : Shape := ⟨2, ![1, 128]⟩
abbrev S32768x1024 : Shape := ⟨2, ![32768, 1024]⟩
abbrev S8x4096x8x2x64 : Shape := ⟨5, ![8, 4096, 8, 2, 64]⟩
abbrev S8x4096x8x128 : Shape := ⟨4, ![8, 4096, 8, 128]⟩
abbrev S8x512x8x128 : Shape := ⟨4, ![8, 512, 8, 128]⟩
abbrev S8x512x8x2x64 : Shape := ⟨5, ![8, 512, 8, 2, 64]⟩
abbrev S8x4608x8x2x64 : Shape := ⟨5, ![8, 4608, 8, 2, 64]⟩
abbrev S8x4608x8x128 : Shape := ⟨4, ![8, 4608, 8, 128]⟩
abbrev S64 : Shape := ⟨1, ![64]⟩
abbrev S_ : Shape := ⟨0, ![]⟩
abbrev S8x2x8x4096x4608 : Shape := ⟨5, ![8, 2, 8, 4096, 4608]⟩
abbrev S8x2x8x4096 : Shape := ⟨4, ![8, 2, 8, 4096]⟩
abbrev S8x2x8x4096x1 : Shape := ⟨5, ![8, 2, 8, 4096, 1]⟩
abbrev S8x1x8x4096x4608 : Shape := ⟨5, ![8, 1, 8, 4096, 4608]⟩
abbrev S8x8x4096x4608 : Shape := ⟨4, ![8, 8, 4096, 4608]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S128 : Shape := ⟨1, ![128]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S36864x1024, .f32⟩
  | .hbm, ⟨2, _⟩ => ⟨S36864x1024, .f32⟩
  | .hbm, ⟨3, _⟩ => ⟨S8x1x512x8x128, .f32⟩
  | .hbm, ⟨4, _⟩ => ⟨S8x1x512x8x128, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S32768x1024, .f32⟩
  | .hbm, ⟨11, _⟩ => ⟨S8x4096x8x2x64, .f32⟩
  | .hbm, ⟨12, _⟩ => ⟨S32768x1024, .f32⟩
  | .hbm, ⟨13, _⟩ => ⟨S8x4096x8x2x64, .f32⟩
  | .hbm, ⟨14, _⟩ => ⟨S32768x1024, .f32⟩
  | .hbm, ⟨15, _⟩ => ⟨S8x4096x8x128, .f32⟩
  | .hbm, ⟨16, _⟩ => ⟨S8x512x8x128, .f32⟩
  | .hbm, ⟨17, _⟩ => ⟨S8x512x8x2x64, .f32⟩
  | .hbm, ⟨18, _⟩ => ⟨S8x512x8x128, .f32⟩
  | .hbm, ⟨19, _⟩ => ⟨S8x4608x8x2x64, .f32⟩
  | .hbm, ⟨20, _⟩ => ⟨S8x4608x8x128, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x2x8x4096x4608, .f32⟩
  | .hbm, ⟨37, _⟩ => ⟨S_, .f32⟩
  | .hbm, ⟨38, _⟩ => ⟨S8x2x8x4096x4608, .f32⟩
  | .hbm, ⟨39, _⟩ => ⟨S8x2x8x4096x4608, .f32⟩
  | .hbm, ⟨40, _⟩ => ⟨S_, .f32⟩
  | .hbm, ⟨41, _⟩ => ⟨S8x2x8x4096, .f32⟩
  | .hbm, ⟨42, _⟩ => ⟨S_, .f32⟩
  | .hbm, ⟨43, _⟩ => ⟨S8x2x8x4096, .f32⟩
  | .hbm, ⟨44, _⟩ => ⟨S8x2x8x4096, .f32⟩
  | .hbm, ⟨45, _⟩ => ⟨S8x2x8x4096x1, .f32⟩
  | .hbm, ⟨46, _⟩ => ⟨S8x2x8x4096x4608, .f32⟩
  | .hbm, ⟨47, _⟩ => ⟨S8x2x8x4096x4608, .f32⟩
  | .hbm, ⟨48, _⟩ => ⟨S8x2x8x4096x4608, .f32⟩
  | .hbm, ⟨49, _⟩ => ⟨S_, .f32⟩
  | .hbm, ⟨50, _⟩ => ⟨S8x2x8x4096, .f32⟩
  | .hbm, ⟨51, _⟩ => ⟨S8x2x8x4096x1, .f32⟩
  | .hbm, ⟨52, _⟩ => ⟨S8x2x8x4096x4608, .f32⟩
  | .hbm, ⟨53, _⟩ => ⟨S8x2x8x4096x4608, .f32⟩
  | .hbm, ⟨54, _⟩ => ⟨S8x1x8x4096x4608, .f32⟩
  | .hbm, ⟨55, _⟩ => ⟨S8x8x4096x4608, .f32⟩
  | .hbm, ⟨56, _⟩ => ⟨S8x1x8x4096x4608, .f32⟩
  | .hbm, ⟨57, _⟩ => ⟨S8x8x4096x4608, .f32⟩
  | .hbm, ⟨58, _⟩ => ⟨S8x8x4096x4608, .f32⟩
  | .hbm, ⟨59, _⟩ => ⟨S8x8x4096x4608, .f32⟩
  | .hbm, ⟨60, _⟩ => ⟨S8x8x4096x4608, .f32⟩
  | .hbm, ⟨61, _⟩ => ⟨S8x8x128x4096, .f32⟩
  | .hbm, ⟨62, _⟩ => ⟨S8x4096x8x128, .f32⟩
  | .hbm, ⟨63, _⟩ => ⟨S8x4096x8x128, .f32⟩
  | .hbm, ⟨64, _⟩ => ⟨S_, .f32⟩
  | .hbm, ⟨65, _⟩ => ⟨S8x4096x8, .f32⟩
  | .hbm, ⟨66, _⟩ => ⟨S8x4096x8x1, .f32⟩
  | .hbm, ⟨67, _⟩ => ⟨S_, .f32⟩
  | .hbm, ⟨68, _⟩ => ⟨S8x4096x8x1, .f32⟩
  | .hbm, ⟨69, _⟩ => ⟨S8x4096x8x1, .f32⟩
  | .hbm, ⟨70, _⟩ => ⟨S_, .f32⟩
  | .hbm, ⟨71, _⟩ => ⟨S8x4096x8x1, .f32⟩
  | .hbm, ⟨72, _⟩ => ⟨S8x4096x8x1, .f32⟩
  | .hbm, ⟨73, _⟩ => ⟨S8x4096x8x1, .f32⟩
  | .hbm, ⟨74, _⟩ => ⟨S8x4096x8x128, .f32⟩
  | .hbm, ⟨75, _⟩ => ⟨S8x4096x8x128, .f32⟩
  | .hbm, ⟨76, _⟩ => ⟨S128, .f32⟩
  | .hbm, ⟨77, _⟩ => ⟨S1x1x1x128, .f32⟩
  | .hbm, ⟨78, _⟩ => ⟨S8x4096x8x128, .f32⟩
  | .hbm, ⟨79, _⟩ => ⟨S8x4096x8x128, .f32⟩
  | .hbm, ⟨80, _⟩ => ⟨S_, .f32⟩
  | .hbm, ⟨81, _⟩ => ⟨S8x4096x8x128, .f32⟩
  | .hbm, ⟨82, _⟩ => ⟨S8x4096x8x128, .f32⟩
  | .hbm, ⟨83, _⟩ => ⟨S32768x1024, .f32⟩
  | .hbm, ⟨84, _⟩ => ⟨S32768x1024, .bf16⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Kernel2.lean ====
abbrev S163840x1024 : Shape := ⟨2, ![163840, 1024]⟩
abbrev S320 : Shape := ⟨1, ![320]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1310720x128 : Shape := ⟨2, ![1310720, 128]⟩
abbrev S2x32x1x2048 : Shape := ⟨4, ![2, 32, 1, 2048]⟩
abbrev S2x32x1x1024 : Shape := ⟨4, ![2, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 9
  | .vmem => 14
  | .smem => 2
  | _ => 0

abbrev bufTy : (tb : Table) → Fin (tcTables nBuf tb) → BufTy
  | .hbm, ⟨0, _⟩ => ⟨S163840x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S1310720x128, .f32⟩
  | .hbm, ⟨6, _⟩ => ⟨S2x32x1x2048, .f32⟩
  | .hbm, ⟨7, _⟩ => ⟨S2x32x1x1024, .f32⟩
  | .hbm, ⟨8, _⟩ => ⟨S1310720x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S320, .i32⟩
  | .local _ .smem, ⟨1, _⟩ => ⟨S1, .i32⟩
  | _, _ => ⟨S163840x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S163840x1024 : Shape := ⟨2, ![163840, 1024]⟩
abbrev S320 : Shape := ⟨1, ![320]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S320x512x1024 : Shape := ⟨3, ![320, 512, 1024]⟩
abbrev S_ : Shape := ⟨0, ![]⟩
abbrev S320x1 : Shape := ⟨2, ![320, 1]⟩
abbrev S320x1024x2048 : Shape := ⟨3, ![320, 1024, 2048]⟩
abbrev S320x512x2048 : Shape := ⟨3, ![320, 512, 2048]⟩
abbrev S320x2048 : Shape := ⟨2, ![320, 2048]⟩
abbrev S320x1x2048 : Shape := ⟨3, ![320, 1, 2048]⟩
abbrev S320x1024x1024 : Shape := ⟨3, ![320, 1024, 1024]⟩
abbrev S320x1024 : Shape := ⟨2, ![320, 1024]⟩
abbrev S320x1x1024 : Shape := ⟨3, ![320, 1, 1024]⟩
abbrev S320x1x1 : Shape := ⟨3, ![320, 1, 1]⟩
abbrev S1310720x128 : Shape := ⟨2, ![1310720, 128]⟩

abbrev nBuf : Space → Nat
  | .hbm => 99
  | .vmem => 0
  | .smem => 0
  | _ => 0

abbrev bufTy : (tb : Table) → Fin (tcTables nBuf tb) → BufTy
  | .hbm, ⟨0, _⟩ => ⟨S163840x1024, .f32⟩
  | .hbm, ⟨1, _⟩ => ⟨S320, .i32⟩
  | .hbm, ⟨2, _⟩ => ⟨S1, .i32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S1x32x1024x2048, .f32⟩
  | .hbm, ⟨8, _⟩ => ⟨S32x1024x2048, .f32⟩
  | .hbm, ⟨9, _⟩ => ⟨S1x32x2048, .f32⟩
  | .hbm, ⟨10, _⟩ => ⟨S32x2048, .f32⟩
  | .hbm, ⟨11, _⟩ => ⟨S1x32x1024x1024, .f32⟩
  | .hbm, ⟨12, _⟩ => ⟨S32x1024x1024, .f32⟩
  | .hbm, ⟨13, _⟩ => ⟨S1x32x1024, .f32⟩
  | .hbm, ⟨14, _⟩ => ⟨S32x1024, .f32⟩
  | .hbm, ⟨15, _⟩ => ⟨S320x512x1024, .f32⟩
  | .hbm, ⟨16, _⟩ => ⟨S_, .i32⟩
  | .hbm, ⟨17, _⟩ => ⟨S320, .i32⟩
  | .hbm, ⟨18, _⟩ => ⟨S320, .i1⟩
  | .hbm, ⟨19, _⟩ => ⟨S_, .i32⟩
  | .hbm, ⟨20, _⟩ => ⟨S320, .i32⟩
  | .hbm, ⟨21, _⟩ => ⟨S320, .i32⟩
  | .hbm, ⟨22, _⟩ => ⟨S320, .i32⟩
  | .hbm, ⟨23, _⟩ => ⟨S320x1, .i32⟩
  | .hbm, ⟨24, _⟩ => ⟨S320x1024x2048, .f32⟩
  | .hbm, ⟨25, _⟩ => ⟨S320x512x2048, .f32⟩
  | .hbm, ⟨26, _⟩ => ⟨S_, .i32⟩
  | .hbm, ⟨27, _⟩ => ⟨S320, .i32⟩
  | .hbm, ⟨28, _⟩ => ⟨S320, .i1⟩
  | .hbm, ⟨29, _⟩ => ⟨S_, .i32⟩
  | .hbm, ⟨30, _⟩ => ⟨S320, .i32⟩
  | .hbm, ⟨31, _⟩ => ⟨S320, .i32⟩
  | .hbm, ⟨32, _⟩ => ⟨S320, .i32⟩
  | .hbm, ⟨33, _⟩ => ⟨S320x1, .i32⟩
  | .hbm, ⟨34, _⟩ => ⟨S320x2048, .f32⟩
  | .hbm, ⟨35, _⟩ => ⟨S320x1x2048, .f32⟩
  | .hbm, ⟨36, _⟩ => ⟨S320x512x2048, .f32⟩
  | .hbm, ⟨37, _⟩ => ⟨S320x512x2048, .f32⟩
  | .hbm, ⟨38, _⟩ => ⟨S320x512x1024, .f32⟩
  | .hbm, ⟨39, _⟩ => ⟨S_, .f32⟩
  | .hbm, ⟨40, _⟩ => ⟨S320x512x1024, .f32⟩
  | .hbm, ⟨41, _⟩ => ⟨S320x512x1024, .f32⟩
  | .hbm, ⟨42, _⟩ => ⟨S320x512x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S320x512x1024, .f32⟩
  | .hbm, ⟨47, _⟩ => ⟨S320x512x1024, .f32⟩
  | .hbm, ⟨48, _⟩ => ⟨S_, .f32⟩
  | .hbm, ⟨49, _⟩ => ⟨S320x512x1024, .f32⟩
  | .hbm, ⟨50, _⟩ => ⟨S320x512x1024, .f32⟩
  | .hbm, ⟨51, _⟩ => ⟨S_, .f32⟩
  | .hbm, ⟨52, _⟩ => ⟨S320x512x1024, .f32⟩
  | .hbm, ⟨53, _⟩ => ⟨S320x512x1024, .f32⟩
  | .hbm, ⟨54, _⟩ => ⟨S320x512x1024, .f32⟩
  | .hbm, ⟨55, _⟩ => ⟨S320x512x1024, .f32⟩
  | .hbm, ⟨56, _⟩ => ⟨S_, .f32⟩
  | .hbm, ⟨57, _⟩ => ⟨S320x512x1024, .f32⟩
  | .hbm, ⟨58, _⟩ => ⟨S320x512x1024, .f32⟩
  | .hbm, ⟨59, _⟩ => ⟨S_, .f32⟩
  | .hbm, ⟨60, _⟩ => ⟨S320x512x1024, .f32⟩
  | .hbm, ⟨61, _⟩ => ⟨S320x512x1024, .f32⟩
  | .hbm, ⟨62, _⟩ => ⟨S320x512x1024, .f32⟩
  | .hbm, ⟨63, _⟩ => ⟨S_, .f32⟩
  | .hbm, ⟨64, _⟩ => ⟨S320x512x1024, .f32⟩
  | .hbm, ⟨65, _⟩ => ⟨S320x512x1024, .f32⟩
  | .hbm, ⟨66, _⟩ => ⟨S320x512x1024, .f32⟩
  | .hbm, ⟨67, _⟩ => ⟨S_, .i32⟩
  | .hbm, ⟨68, _⟩ => ⟨S320, .i32⟩
  | .hbm, ⟨69, _⟩ => ⟨S320, .i1⟩
  | .hbm, ⟨70, _⟩ => ⟨S_, .i32⟩
  | .hbm, ⟨71, _⟩ => ⟨S320, .i32⟩
  | .hbm, ⟨72, _⟩ => ⟨S320, .i32⟩
  | .hbm, ⟨73, _⟩ => ⟨S320, .i32⟩
  | .hbm, ⟨74, _⟩ => ⟨S320x1, .i32⟩
  | .hbm, ⟨75, _⟩ => ⟨S320x1024x1024, .f32⟩
  | .hbm, ⟨76, _⟩ => ⟨S320x512x1024, .f32⟩
  | .hbm, ⟨77, _⟩ => ⟨S_, .i32⟩
  | .hbm, ⟨78, _⟩ => ⟨S320, .i32⟩
  | .hbm, ⟨79, _⟩ => ⟨S320, .i1⟩
  | .hbm, ⟨80, _⟩ => ⟨S_, .i32⟩
  | .hbm, ⟨81, _⟩ => ⟨S320, .i32⟩
  | .hbm, ⟨82, _⟩ => ⟨S320, .i32⟩
  | .hbm, ⟨83, _⟩ => ⟨S320, .i32⟩
  | .hbm, ⟨84, _⟩ => ⟨S320x1, .i32⟩
  | .hbm, ⟨85, _⟩ => ⟨S320x1024, .f32⟩
  | .hbm, ⟨86, _⟩ => ⟨S320x1x1024, .f32⟩
  | .hbm, ⟨87, _⟩ => ⟨S320x512x1024, .f32⟩
  | .hbm, ⟨88, _⟩ => ⟨S320x512x1024, .f32⟩
  | .hbm, ⟨89, _⟩ => ⟨S320, .i32⟩
  | .hbm, ⟨90, _⟩ => ⟨S320, .i32⟩
  | .hbm, ⟨91, _⟩ => ⟨S320, .i1⟩
  | .hbm, ⟨92, _⟩ => ⟨S320x1x1, .i1⟩
  | .hbm, ⟨93, _⟩ => ⟨S_, .f32⟩
  | .hbm, ⟨94, _⟩ => ⟨S_, .f32⟩
  | .hbm, ⟨95, _⟩ => ⟨S320x512x1024, .i1⟩
  | .hbm, ⟨96, _⟩ => ⟨S320x512x1024, .f32⟩
  | .hbm, ⟨97, _⟩ => ⟨S320x512x1024, .f32⟩
  | .hbm, ⟨98, _⟩ => ⟨S1310720x128, .f32⟩
  | _, _ => ⟨S163840x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kernel3.lean ====
abbrev S163840x1024 : Shape := ⟨2, ![163840, 1024]⟩
abbrev S320 : Shape := ⟨1, ![320]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1310720x128 : Shape := ⟨2, ![1310720, 128]⟩
abbrev S2x32x1x2048 : Shape := ⟨4, ![2, 32, 1, 2048]⟩
abbrev S2x32x1x1024 : Shape := ⟨4, ![2, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 9
  | .vmem => 14
  | .smem => 2
  | _ => 0

abbrev bufTy : (tb : Table) → Fin (tcTables nBuf tb) → BufTy
  | .hbm, ⟨0, _⟩ => ⟨S163840x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S1310720x128, .f32⟩
  | .hbm, ⟨6, _⟩ => ⟨S2x32x1x2048, .f32⟩
  | .hbm, ⟨7, _⟩ => ⟨S2x32x1x1024, .f32⟩
  | .hbm, ⟨8, _⟩ => ⟨S1310720x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S320, .i32⟩
  | .local _ .smem, ⟨1, _⟩ => ⟨S1, .i32⟩
  | _, _ => ⟨S163840x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S163840x1024 : Shape := ⟨2, ![163840, 1024]⟩
abbrev S320 : Shape := ⟨1, ![320]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S320x512x1024 : Shape := ⟨3, ![320, 512, 1024]⟩
abbrev S_ : Shape := ⟨0, ![]⟩
abbrev S320x1 : Shape := ⟨2, ![320, 1]⟩
abbrev S320x1024x2048 : Shape := ⟨3, ![320, 1024, 2048]⟩
abbrev S320x512x2048 : Shape := ⟨3, ![320, 512, 2048]⟩
abbrev S320x2048 : Shape := ⟨2, ![320, 2048]⟩
abbrev S320x1x2048 : Shape := ⟨3, ![320, 1, 2048]⟩
abbrev S320x1024x1024 : Shape := ⟨3, ![320, 1024, 1024]⟩
abbrev S320x1024 : Shape := ⟨2, ![320, 1024]⟩
abbrev S320x1x1024 : Shape := ⟨3, ![320, 1, 1024]⟩
abbrev S320x1x1 : Shape := ⟨3, ![320, 1, 1]⟩
abbrev S1310720x128 : Shape := ⟨2, ![1310720, 128]⟩

abbrev nBuf : Space → Nat
  | .hbm => 99
  | .vmem => 0
  | .smem => 0
  | _ => 0

abbrev bufTy : (tb : Table) → Fin (tcTables nBuf tb) → BufTy
  | .hbm, ⟨0, _⟩ => ⟨S163840x1024, .f32⟩
  | .hbm, ⟨1, _⟩ => ⟨S320, .i32⟩
  | .hbm, ⟨2, _⟩ => ⟨S1, .i32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S1x32x1024x2048, .f32⟩
  | .hbm, ⟨8, _⟩ => ⟨S32x1024x2048, .f32⟩
  | .hbm, ⟨9, _⟩ => ⟨S1x32x2048, .f32⟩
  | .hbm, ⟨10, _⟩ => ⟨S32x2048, .f32⟩
  | .hbm, ⟨11, _⟩ => ⟨S1x32x1024x1024, .f32⟩
  | .hbm, ⟨12, _⟩ => ⟨S32x1024x1024, .f32⟩
  | .hbm, ⟨13, _⟩ => ⟨S1x32x1024, .f32⟩
  | .hbm, ⟨14, _⟩ => ⟨S32x1024, .f32⟩
  | .hbm, ⟨15, _⟩ => ⟨S320x512x1024, .f32⟩
  | .hbm, ⟨16, _⟩ => ⟨S_, .i32⟩
  | .hbm, ⟨17, _⟩ => ⟨S320, .i32⟩
  | .hbm, ⟨18, _⟩ => ⟨S320, .i1⟩
  | .hbm, ⟨19, _⟩ => ⟨S_, .i32⟩
  | .hbm, ⟨20, _⟩ => ⟨S320, .i32⟩
  | .hbm, ⟨21, _⟩ => ⟨S320, .i32⟩
  | .hbm, ⟨22, _⟩ => ⟨S320, .i32⟩
  | .hbm, ⟨23, _⟩ => ⟨S320x1, .i32⟩
  | .hbm, ⟨24, _⟩ => ⟨S320x1024x2048, .f32⟩
  | .hbm, ⟨25, _⟩ => ⟨S320x512x2048, .f32⟩
  | .hbm, ⟨26, _⟩ => ⟨S_, .i32⟩
  | .hbm, ⟨27, _⟩ => ⟨S320, .i32⟩
  | .hbm, ⟨28, _⟩ => ⟨S320, .i1⟩
  | .hbm, ⟨29, _⟩ => ⟨S_, .i32⟩
  | .hbm, ⟨30, _⟩ => ⟨S320, .i32⟩
  | .hbm, ⟨31, _⟩ => ⟨S320, .i32⟩
  | .hbm, ⟨32, _⟩ => ⟨S320, .i32⟩
  | .hbm, ⟨33, _⟩ => ⟨S320x1, .i32⟩
  | .hbm, ⟨34, _⟩ => ⟨S320x2048, .f32⟩
  | .hbm, ⟨35, _⟩ => ⟨S320x1x2048, .f32⟩
  | .hbm, ⟨36, _⟩ => ⟨S320x512x2048, .f32⟩
  | .hbm, ⟨37, _⟩ => ⟨S320x512x2048, .f32⟩
  | .hbm, ⟨38, _⟩ => ⟨S320x512x1024, .f32⟩
  | .hbm, ⟨39, _⟩ => ⟨S_, .f32⟩
  | .hbm, ⟨40, _⟩ => ⟨S320x512x1024, .f32⟩
  | .hbm, ⟨41, _⟩ => ⟨S320x512x1024, .f32⟩
  | .hbm, ⟨42, _⟩ => ⟨S320x512x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S320x512x1024, .f32⟩
  | .hbm, ⟨47, _⟩ => ⟨S320x512x1024, .f32⟩
  | .hbm, ⟨48, _⟩ => ⟨S_, .f32⟩
  | .hbm, ⟨49, _⟩ => ⟨S320x512x1024, .f32⟩
  | .hbm, ⟨50, _⟩ => ⟨S320x512x1024, .f32⟩
  | .hbm, ⟨51, _⟩ => ⟨S_, .f32⟩
  | .hbm, ⟨52, _⟩ => ⟨S320x512x1024, .f32⟩
  | .hbm, ⟨53, _⟩ => ⟨S320x512x1024, .f32⟩
  | .hbm, ⟨54, _⟩ => ⟨S320x512x1024, .f32⟩
  | .hbm, ⟨55, _⟩ => ⟨S320x512x1024, .f32⟩
  | .hbm, ⟨56, _⟩ => ⟨S_, .f32⟩
  | .hbm, ⟨57, _⟩ => ⟨S320x512x1024, .f32⟩
  | .hbm, ⟨58, _⟩ => ⟨S320x512x1024, .f32⟩
  | .hbm, ⟨59, _⟩ => ⟨S_, .f32⟩
  | .hbm, ⟨60, _⟩ => ⟨S320x512x1024, .f32⟩
  | .hbm, ⟨61, _⟩ => ⟨S320x512x1024, .f32⟩
  | .hbm, ⟨62, _⟩ => ⟨S320x512x1024, .f32⟩
  | .hbm, ⟨63, _⟩ => ⟨S_, .f32⟩
  | .hbm, ⟨64, _⟩ => ⟨S320x512x1024, .f32⟩
  | .hbm, ⟨65, _⟩ => ⟨S320x512x1024, .f32⟩
  | .hbm, ⟨66, _⟩ => ⟨S320x512x1024, .f32⟩
  | .hbm, ⟨67, _⟩ => ⟨S_, .i32⟩
  | .hbm, ⟨68, _⟩ => ⟨S320, .i32⟩
  | .hbm, ⟨69, _⟩ => ⟨S320, .i1⟩
  | .hbm, ⟨70, _⟩ => ⟨S_, .i32⟩
  | .hbm, ⟨71, _⟩ => ⟨S320, .i32⟩
  | .hbm, ⟨72, _⟩ => ⟨S320, .i32⟩
  | .hbm, ⟨73, _⟩ => ⟨S320, .i32⟩
  | .hbm, ⟨74, _⟩ => ⟨S320x1, .i32⟩
  | .hbm, ⟨75, _⟩ => ⟨S320x1024x1024, .f32⟩
  | .hbm, ⟨76, _⟩ => ⟨S320x512x1024, .f32⟩
  | .hbm, ⟨77, _⟩ => ⟨S_, .i32⟩
  | .hbm, ⟨78, _⟩ => ⟨S320, .i32⟩
  | .hbm, ⟨79, _⟩ => ⟨S320, .i1⟩
  | .hbm, ⟨80, _⟩ => ⟨S_, .i32⟩
  | .hbm, ⟨81, _⟩ => ⟨S320, .i32⟩
  | .hbm, ⟨82, _⟩ => ⟨S320, .i32⟩
  | .hbm, ⟨83, _⟩ => ⟨S320, .i32⟩
  | .hbm, ⟨84, _⟩ => ⟨S320x1, .i32⟩
  | .hbm, ⟨85, _⟩ => ⟨S320x1024, .f32⟩
  | .hbm, ⟨86, _⟩ => ⟨S320x1x1024, .f32⟩
  | .hbm, ⟨87, _⟩ => ⟨S320x512x1024, .f32⟩
  | .hbm, ⟨88, _⟩ => ⟨S320x512x1024, .f32⟩
  | .hbm, ⟨89, _⟩ => ⟨S320, .i32⟩
  | .hbm, ⟨90, _⟩ => ⟨S320, .i32⟩
  | .hbm, ⟨91, _⟩ => ⟨S320, .i1⟩
  | .hbm, ⟨92, _⟩ => ⟨S320x1x1, .i1⟩
  | .hbm, ⟨93, _⟩ => ⟨S_, .f32⟩
  | .hbm, ⟨94, _⟩ => ⟨S_, .f32⟩
  | .hbm, ⟨95, _⟩ => ⟨S320x512x1024, .i1⟩
  | .hbm, ⟨96, _⟩ => ⟨S320x512x1024, .f32⟩
  | .hbm, ⟨97, _⟩ => ⟨S320x512x1024, .f32⟩
  | .hbm, ⟨98, _⟩ => ⟨S1310720x128, .f32⟩
  | _, _ => ⟨S163840x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kernel4.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S1x16x6144, .f32⟩
  | .hbm, ⟨38, _⟩ => ⟨S1x16x6144, .f32⟩
  | .hbm, ⟨39, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Math.lean ====
/- The arithmetic of an online softmax over the extended reals, apart from any program.

   A row of scores is met in chunks. `Row n S W m a` says what the running maximum `m` and the running sums
   `a` hold once the first `n` scores are met: nothing yet, or the sums of `2 ^ (S k - M) * W k c` for SOME real
   `M` — which one does not matter, since it leaves the quotient of two such sums. `Row.step` takes one chunk,
   `Row.quot` the quotient at the end, `softmax_coe` the quotient a plain softmax forms. -/
module

public import Idealize.ShloMosaic.PureOps.Ideal.Laws
public import Idealize.ShloMosaic.Lib.IdealHost

@[expose] public section

noncomputable section

namespace Cert.Proof

open Idealize.ShloMosaic

/-- A finite sum of reals is the same among the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The maximum of two reals is the same among the extended reals. -/
theorem coe_max (x y : ℝ) : ((max x y : ℝ) : EReal) = max (x : EReal) (y : EReal) :=
  EReal.coe_strictMono.monotone.map_max

/-- The maximum of finitely many reals, started from minus infinity, is real. -/
theorem fold_max_coe {ι : Type} (s : Finset ι) (hs : s.Nonempty) (f : ι → EReal) (hf : ∀ i ∈ s, ∃ r : ℝ, f i = r) :
    ∃ M : ℝ, s.fold max ⊥ f = M := by
  classical
  induction hs using Finset.Nonempty.cons_induction with
  | singleton i =>
    obtain ⟨r, hr⟩ := hf i (by simp)
    exact ⟨r, by simp [hr]⟩
  | cons i s hi hs ih =>
    obtain ⟨r, hr⟩ := hf i (by simp)
    obtain ⟨M, hM⟩ := ih fun j hj => hf j (by simp [hj])
    exact ⟨max r M, by rw [Finset.fold_cons, hM, hr, ← coe_max]⟩

/-- The state of one row after `n` scores: the running maximum `m` and the running sums `a`. -/
def Row {C : Type} (n : ℕ) (S : ℕ → ℝ) (W : ℕ → C → ℝ) (m : EReal) (a : C → EReal) : Prop :=
  (n = 0 ∧ m = ⊥ ∧ ∀ c, a c = 0) ∨
    ∃ M : ℝ, m = M ∧ ∀ c, a c = ((∑ k ∈ Finset.range n, (2 : ℝ) ^ (S k - M) * W k c : ℝ) : EReal)

/-- Before any score. -/
theorem Row.start {C : Type} (S : ℕ → ℝ) (W : ℕ → C → ℝ) {m : EReal} {a : C → EReal} (hm : m = ⊥) (ha : ∀ c, a c = 0) :
    Row 0 S W m a := .inl ⟨rfl, hm, ha⟩

/-- One chunk of `p` further scores: the maximum is raised, the sums are rescaled, the chunk's terms are added. -/
theorem Row.step {C : Type} {n p : ℕ} (hp : 0 < p) {S : ℕ → ℝ} {W : ℕ → C → ℝ} {m m' : EReal} {a a' : C → EReal}
    (h : Row n S W m a) (s : Fin p → EReal) (x : Fin p → C → EReal)
    (hs : ∀ k : Fin p, s k = ((S (n + k.val) : ℝ) : EReal)) (hx : ∀ (k : Fin p) c, x k c = ((W (n + k.val) c : ℝ) : EReal))
    (hm' : m' = max m ((Finset.univ : Finset (Fin p)).fold max ⊥ s))
    (ha' : ∀ c, a' c = a c * Ideal.exp2 (m - m') + ∑ k : Fin p, Ideal.exp2 (s k - m') * x k c) :
    Row (n + p) S W m' a' := by
  haveI : Nonempty (Fin p) := ⟨⟨0, hp⟩⟩
  obtain ⟨Mc, hMc⟩ := fold_max_coe (Finset.univ : Finset (Fin p)) Finset.univ_nonempty s fun k _ => ⟨_, hs k⟩
  have chunk : ∀ (M' : ℝ) (c : C), ∑ k : Fin p, Ideal.exp2 (s k - (M' : EReal)) * x k c
      = ((∑ k ∈ Finset.range p, (2 : ℝ) ^ (S (n + k) - M') * W (n + k) c : ℝ) : EReal) := by
    intro M' c
    rw [Finset.sum_range, ← coe_sum]
    refine Finset.sum_congr rfl fun k _ => ?_
    rw [hs, hx, ← EReal.coe_sub, Ideal.exp2_coe, ← EReal.coe_mul]
    rfl
  rcases h with ⟨rfl, rfl, ha⟩ | ⟨M, rfl, ha⟩
  · rw [hMc, max_eq_right bot_le] at hm'
    subst hm'
    refine .inr ⟨Mc, rfl, fun c => ?_⟩
    rw [ha', ha, zero_mul, zero_add, chunk]
    simp
  · rw [hMc, ← coe_max] at hm'
    subst hm'
    refine .inr ⟨max M Mc, rfl, fun c => ?_⟩
    rw [ha', ha, chunk, ← EReal.coe_sub, Ideal.exp2_coe, ← EReal.coe_mul, ← EReal.coe_add, EReal.coe_eq_coe_iff,
      Finset.sum_range_add, Finset.sum_mul]
    congr 1
    refine Finset.sum_congr rfl fun k _ => ?_
    show (2 : ℝ) ^ (S k - M) * W k c * (2 : ℝ) ^ (M - max M Mc) = _
    rw [mul_right_comm, ← Real.rpow_add two_pos]
    congr 2
    ring

/-- The mean of `w` weighted by the exponentials of the scores `s`. -/
def mix (N : ℕ) (s w : ℕ → ℝ) : ℝ :=
  (∑ k ∈ Finset.range N, Real.exp (s k) * w k) / ∑ k ∈ Finset.range N, Real.exp (s k)

theorem exp_sum_pos {N : ℕ} (hN : 0 < N) (s : ℕ → ℝ) : 0 < ∑ k ∈ Finset.range N, Real.exp (s k) :=
  Finset.sum_pos (fun _ _ => Real.exp_pos _) ⟨0, by simpa using hN⟩

/-- At the end the quotient of a column of sums by a column of ones is the softmax's weighted mean. -/
theorem Row.quot {C : Type} {N : ℕ} (hN : 0 < N) {S : ℕ → ℝ} {W : ℕ → C → ℝ} {m : EReal} {a : C → EReal}
    (h : Row N S W m a) (c d : C) (hd : ∀ k, W k d = 1) (s : ℕ → ℝ) (hS : ∀ k, S k = s k * (Real.log 2)⁻¹) :
    Ideal.div (a c) (a d) = ((mix N s (fun k => W k c) : ℝ) : EReal) := by
  rcases h with ⟨rfl, -, -⟩ | ⟨M, -, ha⟩
  · exact absurd hN (lt_irrefl 0)
  · have hlog : Real.log 2 ≠ 0 := (Real.log_pos one_lt_two).ne'
    have hpow : ∀ k, (2 : ℝ) ^ (S k - M) = Real.exp (s k) * (2 : ℝ) ^ (-M) := by
      intro k
      rw [sub_eq_add_neg, Real.rpow_add two_pos, Real.rpow_def_of_pos two_pos (S k), hS,
        mul_comm (s k), mul_inv_cancel_left₀ hlog]
    have h2 : (2 : ℝ) ^ (-M) ≠ 0 := (Real.rpow_pos_of_pos two_pos _).ne'
    have hp := exp_sum_pos hN s
    have hnum : ∀ c, (∑ k ∈ Finset.range N, (2 : ℝ) ^ (S k - M) * W k c)
        = (∑ k ∈ Finset.range N, Real.exp (s k) * W k c) * (2 : ℝ) ^ (-M) := by
      intro c
      rw [Finset.sum_mul]
      refine Finset.sum_congr rfl fun k _ => ?_
      rw [hpow]; ring
    have hden : (∑ k ∈ Finset.range N, (2 : ℝ) ^ (S k - M) * W k d)
        = (∑ k ∈ Finset.range N, Real.exp (s k)) * (2 : ℝ) ^ (-M) := by
      rw [hnum]; simp only [hd, mul_one]
    rw [ha, ha, hden, hnum, Ideal.div_coe (mul_ne_zero hp.ne' h2), ← EReal.coe_mul, mix, EReal.coe_eq_coe_iff]
    field_simp

/-- A plain softmax: with any real `M` taken off the scores, a quotient by the sum is the exponential's share. -/
theorem softmax_coe {N : ℕ} (hN : 0 < N) (s : ℕ → ℝ) (M : ℝ) (k : ℕ) (z : EReal)
    (hz : z = ∑ j : Fin N, Ideal.exp (((s j.val : ℝ) : EReal) - (M : EReal))) :
    Ideal.div (Ideal.exp (((s k : ℝ) : EReal) - (M : EReal))) z
      = ((Real.exp (s k) / ∑ j ∈ Finset.range N, Real.exp (s j) : ℝ) : EReal) := by
  have hp := exp_sum_pos hN s
  have hz' : z = (((∑ j ∈ Finset.range N, Real.exp (s j)) * Real.exp (-M) : ℝ) : EReal) := by
    rw [hz, Finset.sum_range, Finset.sum_mul, ← coe_sum]
    refine Finset.sum_congr rfl fun j _ => ?_
    rw [← EReal.coe_sub, Ideal.exp_coe, sub_eq_add_neg, Real.exp_add]
  rw [hz', Ideal.div_coe (mul_ne_zero hp.ne' (Real.exp_pos _).ne'), ← EReal.coe_sub, Ideal.exp_coe, ← EReal.coe_mul,
    EReal.coe_eq_coe_iff, sub_eq_add_neg, Real.exp_add]
  have := (Real.exp_pos (-M)).ne'
  field_simp

/-- The values mixed by the difference of two softmaxes: the difference of the two mixes. -/
theorem diff_mix {N : ℕ} (s₀ s₁ w : ℕ → ℝ) (L : ℝ) :
    ∑ k ∈ Finset.range N, w k * (Real.exp (s₀ k) / (∑ j ∈ Finset.range N, Real.exp (s₀ j))
        - L * (Real.exp (s₁ k) / ∑ j ∈ Finset.range N, Real.exp (s₁ j)))
      = mix N s₀ w - L * mix N s₁ w := by
  unfold mix
  rw [Finset.sum_div, Finset.sum_div, Finset.mul_sum, ← Finset.sum_sub_distrib]
  refine Finset.sum_congr rfl fun k _ => ?_
  ring

end Cert.Proof

end
-- ==== Proof.Block.lean ====
/- What one grid point stores, read at an index, over the point's blocks as variables: the online softmax of
   nine key chunks followed by the difference of the two halves and the RMS norm. -/
module

public import proofs.«01_k».proof.Proof.Gen.KernelIdeal.Skeleton
public import proofs.«01_k».proof.Proof.Math
public import Idealize.ShloMosaic.Lib.Pointwise

@[expose] public section

set_option maxRecDepth 16384

noncomputable section

namespace Cert.Proof

open Idealize.ShloMosaic Idealize.SL.Sem
open Cert.KernelIdeal Cert.KernelIdeal.Gen

/-! ## One chunk, as the payloads spell it -/

section Steps
variable {F : FTy → Type} [FloatOps F] [Named F]

/-- The chunk's scores. -/
def sc (qq : FVec F S1024x128 .bf16) (kt : FVec F S128x512 .bf16) : FVec F S1024x512 .bf16 :=
  truncf .bf16 (matmul dot_S1024x128_S128x512_S1024x512_1_0_0_1_n_n none qq kt (constant S1024x512 .f32 0x00000000#32))
    bitsLt_bf16_f32

/-- The running maximum, raised to the chunk's. -/
def stepM (m : FVec F S1024x1 .f32) (s : FVec F S1024x512 .bf16) : FVec F S1024x1 .f32 :=
  maximumf m (extf .f32 (shapeCast S1024x1
    (multiReduction .maximumf [1] S1024 s 0xFF80#16 reduces_S1024x512_S1024 (.inr rfl) rfl) shapeCasts_S1024_S1024x1) bitsLt_bf16_f32)

/-- The running sums, rescaled to the new maximum, with the chunk's terms added. -/
def stepA (a : FVec F S1024x256 .f32) (m m' : FVec F S1024x1 .f32) (s : FVec F S1024x512 .bf16) (vx : FVec F S512x256 .bf16) :
    FVec F S1024x256 .f32 :=
  addf (mulf a (broadcastTo S1024x256 (exp2 (subf m m')) broadcasts_S1024x1_S1024x256))
    (matmul dot_S1024x512_S512x256_S1024x256_1_0_0_1_n_n none
      (exp2 (subf s (broadcastTo S1024x512 (truncf .bf16 m' bitsLt_bf16_f32) broadcasts_S1024x1_S1024x512))) vx
      (constant S1024x256 .f32 0x00000000#32))

end Steps

/-! ## One chunk at an index -/

theorem ofBits_neg_inf_bf16 : Ideal.ofBits .bf16 0xFF80#16 = ⊥ := by simp [Ideal.ofBits, Ideal.ieee]

theorem ofBits_neg_inf_f32 : Ideal.ofBits .f32 0xFF800000#32 = ⊥ := by simp [Ideal.ofBits, Ideal.ieee]

theorem stepM_apply (m : FVec Ideal S1024x1 .f32) (s : FVec Ideal S1024x512 .bf16) (r : Fin 1024) :
    stepM m s (ix2 r 0) = max (m (ix2 r 0)) ((Finset.univ : Finset (Fin 512)).fold max ⊥ fun k => s (ix2 r k)) := by
  pointwise [stepM]
  rw [ofBits_neg_inf_bf16]

theorem stepA_apply (a : FVec Ideal S1024x256 .f32) (m m' : FVec Ideal S1024x1 .f32) (s : FVec Ideal S1024x512 .bf16)
    (vx : FVec Ideal S512x256 .bf16) (r : Fin 1024) (c : Fin 256) :
    stepA a m m' s vx (ix2 r c) = a (ix2 r c) * Ideal.exp2 (m (ix2 r 0) - m' (ix2 r 0))
      + ∑ k : Fin 512, Ideal.exp2 (s (ix2 r k) - m' (ix2 r 0)) * vx (ix2 k c) := by
  pointwise [stepA]
  rfl

theorem sc_apply (qq : FVec Ideal S1024x128 .bf16) (kt : FVec Ideal S128x512 .bf16) (r : Fin 1024) (k : Fin 512) :
    sc qq kt (ix2 r k) = ∑ d : Fin 128, qq (ix2 r d) * kt (ix2 d k) := by
  pointwise [sc]

theorem pay5_apply (x : Vec Ideal S512x128 .f32) (μ : Fin 2) (r : Fin 512) (d : Fin 128) :
    (k0_pay5 (F := Ideal) x : FVec Ideal S1024x128 .bf16) (ix2 (⟨μ.val * 512 + r.val, by omega⟩ : Fin 1024) d)
      = if d.val / 64 = μ.val then (show FVec Ideal S512x128 .f32 from x) (ix2 r d) * ((8⁻¹ * (Real.log 2)⁻¹ : ℝ) : EReal) else 0 := by
  have hq : (Named.named κ "qscale" 0x3E38AA3B#32 : Ideal .f32) = ((8⁻¹ * (Real.log 2)⁻¹ : ℝ) : EReal) := rfl
  have hlt : IntOp.cmpi CmpIPredicate.slt (BitVec.ofNat 32 d.val) 64#32 = if d.val < 64 then 1#1 else 0#1 := by
    revert d; decide +kernel
  have hge : IntOp.cmpi CmpIPredicate.sge (BitVec.ofNat 32 d.val) 64#32 = if d.val < 64 then 0#1 else 1#1 := by
    revert d; decide +kernel
  pointwise [k0_pay5]
  rw [hq, hlt, hge]
  have hd := d.isLt
  have hr := r.isLt
  have close : ∀ (v : EReal) (p q : Prop) [Decidable p] [Decidable q], (p ↔ q) →
      Scalar.select (if p then 1#1 else 0#1) v (0 : EReal) = if q then v else 0 := by
    intro v p q _ _ h
    by_cases hp : p
    · rw [if_pos hp, if_pos (h.mp hp)]; rfl
    · rw [if_neg hp, if_neg (fun hq => hp (h.mpr hq))]; rfl
  match μ with
  | 0 =>
    rw [dif_pos (show (0 : Fin 2).val * 512 + r.val < 512 by simp)]
    have hi : (⟨(0 : Fin 2).val * 512 + r.val, by simp⟩ : Fin 512) = r := Fin.ext (by simp)
    refine Eq.trans (congrArg (fun q : Fin 512 => Scalar.select (if d.val < 64 then 1#1 else 0#1)
      ((show FVec Ideal S512x128 .f32 from x) (ix2 q d) * ((8⁻¹ * (Real.log 2)⁻¹ : ℝ) : EReal)) (0 : EReal)) hi) ?_
    exact close _ _ _ (by show d.val < 64 ↔ d.val / 64 = 0; omega)
  | 1 =>
    rw [dif_neg (show ¬ (1 : Fin 2).val * 512 + r.val < 512 by simp)]
    have hi : (⟨(1 : Fin 2).val * 512 + r.val - 512, by simp⟩ : Fin 512) = r := Fin.ext (by simp)
    refine Eq.trans (congrArg (fun q : Fin 512 => Scalar.select (if d.val < 64 then 0#1 else 1#1)
      ((show FVec Ideal S512x128 .f32 from x) (ix2 q d) * ((8⁻¹ * (Real.log 2)⁻¹ : ℝ) : EReal)) (0 : EReal)) hi) ?_
    rw [show (if d.val < 64 then 0#1 else 1#1) = if ¬ d.val < 64 then 1#1 else 0#1 from (ite_not ..).symm]
    exact close _ _ _ (by show ¬ d.val < 64 ↔ d.val / 64 = 1; omega)

theorem pay4_apply (lv : Vec Ideal S8x128 .f32) :
    (k0_pay4 (F := Ideal) lv : FVec Ideal S1x1 .f32) (ix2 0 0)
      = Ideal.exp (∑ x : Fin 128, (show FVec Ideal S8x128 .f32 from lv) (ix2 0 x) * (show FVec Ideal S8x128 .f32 from lv) (ix2 1 x))
        - Ideal.exp (∑ x : Fin 128, (show FVec Ideal S8x128 .f32 from lv) (ix2 2 x) * (show FVec Ideal S8x128 .f32 from lv) (ix2 3 x))
        + Ideal.ofBits .f32 0x3EB60549#32 := by
  pointwise [k0_pay4]

/-- The RMS norm of a row `o` at lane `e`, times the gain and one minus lambda's initial value. -/
def rms (o : Fin 128 → EReal) (g : EReal) (e : Fin 128) : EReal :=
  o e * Ideal.rsqrt (Ideal.div (∑ x, o x * o x) (Ideal.ofBits .f32 0x43000000#32) + Ideal.ofBits .f32 0x358637BD#32) * g
    * Ideal.ofBits .f32 0x3F24FD5C#32

theorem pay1_apply (lam : FVec Ideal S1x1 .f32) (a b : FVec Ideal S1024x128 .f32) (g : Vec Ideal S1x128 .f32)
   (r : Fin 512) (e : Fin 128) :
    (k0_pay1 (F := Ideal) lam a b g : FVec Ideal S512x128 .bf16) (ix2 r e)
      = rms (fun x => Ideal.div (a (ix2 ⟨r.val, by omega⟩ x)) (b (ix2 ⟨r.val, by omega⟩ x))
          - lam (ix2 0 0) * Ideal.div (a (ix2 ⟨512 + r.val, by omega⟩ x)) (b (ix2 ⟨512 + r.val, by omega⟩ x)))
          ((show FVec Ideal S1x128 .f32 from g) (ix2 0 e)) e := by
  pointwise [k0_pay1]
  rfl

/-! ## The payloads are chains of these steps -/

section Chain
variable {F : FTy → Type} [FloatOps F] [Named F]

/-- The key block of one chunk. -/
abbrev kc (kt : Vec F S1x128x512 .bf16) : FVec F S128x512 .bf16 := shapeCast S128x512 kt shapeCasts_S1x128x512_S128x512

/-- The maxima after the chunks listed, the last first. -/
def ms (qq : FVec F S1024x128 .bf16) : List (Vec F S1x128x512 .bf16 × Vec F S512x256 .bf16) → FVec F S1024x1 .f32
  | [] => k0_pay6
  | c :: l => stepM (ms qq l) (sc qq (kc c.1))

/-- The sums after the chunks listed, the last first. -/
def sums (qq : FVec F S1024x128 .bf16) : List (Vec F S1x128x512 .bf16 × Vec F S512x256 .bf16) → FVec F S1024x256 .f32
  | [] => k0_pay7
  | c :: l => stepA (sums qq l) (ms qq l) (ms qq (c :: l)) (sc qq (kc c.1)) c.2

variable (qq : FVec F S1024x128 .bf16) (k0 k1 k2 k3 k4 k5 k6 k7 k8 : Vec F S1x128x512 .bf16)
  (x0 x1 x2 x3 x4 x5 x6 x7 x8 : Vec F S512x256 .bf16) (l : List (Vec F S1x128x512 .bf16 × Vec F S512x256 .bf16))

theorem m2_eq : k0_pay13 qq k0_pay6 (k0_pay8 k0) (constant S1024x512 .f32 0x00000000#32) k1
    = ms qq [(k1, x1), (k0, x0)] := rfl

theorem a2_eq : k0_pay14 qq k0_pay6 k0_pay7 (k0_pay8 k0) (constant S1024x512 .f32 0x00000000#32) k1 x0 x1
    = sums qq [(k1, x1), (k0, x0)] := rfl

theorem m4_eq : k0_pay19 qq (k0_pay11 qq k2) (ms qq l) (k0_pay15 k3) = ms qq ((k3, x3) :: (k2, x2) :: l) := rfl

theorem a4_eq : k0_pay20 qq (k0_pay11 qq k2) (ms qq l) (sums qq l) (k0_pay15 k3) x2 x3
    = sums qq ((k3, x3) :: (k2, x2) :: l) := rfl

theorem m6_eq : k0_pay26 (ms qq l) (k0_pay21 qq k5) (k0_pay23 qq k4) = ms qq ((k5, x5) :: (k4, x4) :: l) := rfl

theorem a6_eq : k0_pay27 (ms qq l) (sums qq l) (k0_pay21 qq k5) (k0_pay22 qq k4) (k0_pay23 qq k4) x4 x5
    = sums qq ((k5, x5) :: (k4, x4) :: l) := rfl

/-- The exponentials of the chunk `k6`, against the maximum it raises. -/
def exps : FVec F S1024x512 .bf16 :=
  exp2 (subf (sc qq (kc k6)) (broadcastTo S1024x512 (truncf .bf16 (stepM (ms qq l) (sc qq (kc k6))) bitsLt_bf16_f32)
    broadcasts_S1024x1_S1024x512))

theorem m7_eq : k0_pay30 qq (ms qq l) (k0_pay21 qq k5) (k0_pay23 qq k4) k6
    = stepM (ms qq ((k5, x5) :: (k4, x4) :: l)) (sc qq (kc k6)) := rfl

theorem e7_eq : k0_pay31 qq (ms qq l) (k0_pay21 qq k5) (k0_pay23 qq k4) k6
    = exps qq k6 ((k5, x5) :: (k4, x4) :: l) := rfl

theorem a9_eq : k0_pay32 qq (ms qq l) (sums qq l) (k0_pay28 qq k7) (stepM (ms qq l) (sc qq (kc k6))) (exps qq k6 l) x6 k8 x7 x8
      = sums qq ((k8, x8) :: (k7, x7) :: (k6, x6) :: l) := rfl

/-- The point's result from the sums of all chunks. -/
def finish (lam : FVec F S1x1 .f32) (a : FVec F S1024x256 .f32) (g : Vec F S1x128 .f32) : FVec F S512x128 .bf16 :=
  k0_pay1 lam (extractStridedSlice S1024x128 ![0, 0] a slices_S1024x256_o0_0_S1024x128)
    (broadcastTo S1024x128 (extractStridedSlice S1024x1 ![0, 128] a slices_S1024x256_o0_128_S1024x1) broadcasts_S1024x1_S1024x128) g

/-- What the point stores is `finish` of the sums of its nine chunks. -/
theorem out_eq (lam : FVec F S1x1 .f32) (g : Vec F S1x128 .f32) (m2 m4 m6 m7 : FVec F S1024x1 .f32) (a2 a4 a6 : FVec F S1024x256 .f32)
    (e7 : FVec F S1024x512 .bf16)
    (hm2 : m2 = k0_pay13 qq k0_pay6 (k0_pay8 k0) (constant S1024x512 .f32 0x00000000#32) k1)
    (ha2 : a2 = k0_pay14 qq k0_pay6 k0_pay7 (k0_pay8 k0) (constant S1024x512 .f32 0x00000000#32) k1 x0 x1)
    (hm4 : m4 = k0_pay19 qq (k0_pay11 qq k2) m2 (k0_pay15 k3))
    (ha4 : a4 = k0_pay20 qq (k0_pay11 qq k2) m2 a2 (k0_pay15 k3) x2 x3)
    (hm6 : m6 = k0_pay26 m4 (k0_pay21 qq k5) (k0_pay23 qq k4))
    (ha6 : a6 = k0_pay27 m4 a4 (k0_pay21 qq k5) (k0_pay22 qq k4) (k0_pay23 qq k4) x4 x5)
    (hm7 : m7 = k0_pay30 qq m4 (k0_pay21 qq k5) (k0_pay23 qq k4) k6)
    (he7 : e7 = k0_pay31 qq m4 (k0_pay21 qq k5) (k0_pay23 qq k4) k6) :
    k0_pay1 lam (k0_pay33 qq m6 a6 (k0_pay28 qq k7) m7 e7 x6 k8 x7 x8) (k0_pay34 qq m6 a6 (k0_pay28 qq k7) m7 e7 x6 k8 x7 x8) g
      = finish lam (sums qq [(k8, x8), (k7, x7), (k6, x6), (k5, x5), (k4, x4), (k3, x3), (k2, x2), (k1, x1), (k0, x0)]) g := by
  rw [m2_eq qq k0 k1 x0 x1] at hm2
  rw [a2_eq] at ha2
  subst hm2 ha2
  rw [m4_eq qq k2 k3 x2 x3] at hm4
  rw [a4_eq] at ha4
  subst hm4 ha4
  rw [m6_eq qq k4 k5 x4 x5] at hm6
  rw [a6_eq] at ha6
  rw [m7_eq qq k4 k5 k6 x4 x5] at hm7
  rw [e7_eq qq k4 k5 k6 x4 x5] at he7
  subst hm6 ha6 hm7 he7
  rw [← a9_eq]
  rfl

end Chain

/-! ## The chunks over real data -/

/-- The score of query `r` and key `k` in the half `μ` of the head's lanes. -/
def score (Q : Fin 512 → Fin 128 → ℝ) (K : ℕ → Fin 128 → ℝ) (μ : Fin 2) (r : Fin 512) (k : ℕ) : ℝ :=
  (∑ d : Fin 64, Q r ⟨μ.val * 64 + d.val, by omega⟩ * K k ⟨μ.val * 64 + d.val, by omega⟩) * 8⁻¹

/-- The values with the ones beside them, from which the kernel sums its denominators. -/
def vals (V : ℕ → Fin 128 → ℝ) (k : ℕ) (c : Fin 256) : ℝ := if h : c.val < 128 then V k ⟨c.val, h⟩ else 1

/-- The chunks (the last first) hold the keys `K` and the values `V`, 512 each. -/
def Good (K V : ℕ → Fin 128 → ℝ) : List (Vec Ideal S1x128x512 .bf16 × Vec Ideal S512x256 .bf16) → Prop
  | [] => True
  | c :: l => ((∀ (d : Fin 128) (k : Fin 512), (show FVec Ideal S1x128x512 .bf16 from c.1) (ix3 0 d k) = ((K (l.length * 512 + k.val) d : ℝ) : EReal))
      ∧ ∀ (k : Fin 512) (e : Fin 256), (show FVec Ideal S512x256 .bf16 from c.2) (ix2 k e) = ((vals V (l.length * 512 + k.val) e : ℝ) : EReal))
      ∧ Good K V l

theorem kc_apply (kt : Vec Ideal S1x128x512 .bf16) (d : Fin 128) (k : Fin 512) :
    (kc (F := Ideal) kt) (ix2 d k) = (show FVec Ideal S1x128x512 .bf16 from kt) (ix3 0 d k) := by
  pointwise [kc]

/-- The chunk's scores in base two. -/
theorem sc_val (x : Vec Ideal S512x128 .f32) (kt : Vec Ideal S1x128x512 .bf16) (Q : Fin 512 → Fin 128 → ℝ) (K : ℕ → Fin 128 → ℝ)
    (n : ℕ) (hx : ∀ r d, (show FVec Ideal S512x128 .f32 from x) (ix2 r d) = ((Q r d : ℝ) : EReal))
    (hk : ∀ (d : Fin 128) (k : Fin 512), (show FVec Ideal S1x128x512 .bf16 from kt) (ix3 0 d k) = ((K (n + k.val) d : ℝ) : EReal))
    (μ : Fin 2) (r k : Fin 512) :
    sc (k0_pay5 (F := Ideal) x) (kc kt) (ix2 (⟨μ.val * 512 + r.val, by omega⟩ : Fin 1024) k)
      = ((score Q K μ r (n + k.val) * (Real.log 2)⁻¹ : ℝ) : EReal) := by
  have term : ∀ d : Fin 128, (k0_pay5 (F := Ideal) x : FVec Ideal S1024x128 .bf16) (ix2 (⟨μ.val * 512 + r.val, by omega⟩ : Fin 1024) d)
      * (kc (F := Ideal) kt) (ix2 d k)
      = (((if d.val / 64 = μ.val then Q r d * K (n + k.val) d else 0) * (8⁻¹ * (Real.log 2)⁻¹) : ℝ) : EReal) := by
    intro d
    rw [pay5_apply, kc_apply, hx, hk]
    split
    · rw [← EReal.coe_mul, ← EReal.coe_mul]; congr 1; ring
    · rw [zero_mul, zero_mul, EReal.coe_zero]
  rw [sc_apply, Finset.sum_congr rfl fun d _ => term d, coe_sum, EReal.coe_eq_coe_iff, ← Finset.sum_mul,
    Fin.sum_univ_tiles 2 64 rfl, Finset.sum_eq_single μ]
  · rw [score, Finset.sum_congr rfl fun d _ => if_pos (by show (μ.val * 64 + d.val) / 64 = μ.val; omega)]
    ring
  · intro j _ hj
    refine Finset.sum_eq_zero fun d _ => if_neg ?_
    show ¬ (j.val * 64 + d.val) / 64 = μ.val
    have := fun h : j.val = μ.val => hj (Fin.ext h)
    omega
  · intro h; exact absurd (Finset.mem_univ _) h

/-- A row after the chunks of a good list. -/
theorem row_val (x : Vec Ideal S512x128 .f32) (Q : Fin 512 → Fin 128 → ℝ) (K V : ℕ → Fin 128 → ℝ)
    (hx : ∀ r d, (show FVec Ideal S512x128 .f32 from x) (ix2 r d) = ((Q r d : ℝ) : EReal)) (μ : Fin 2) (r : Fin 512) :
    ∀ l : List (Vec Ideal S1x128x512 .bf16 × Vec Ideal S512x256 .bf16), Good K V l →
      Row (l.length * 512) (fun k => score Q K μ r k * (Real.log 2)⁻¹) (vals V)
        (ms (F := Ideal) (k0_pay5 x) l (ix2 (⟨μ.val * 512 + r.val, by omega⟩ : Fin 1024) 0))
        (fun c => sums (F := Ideal) (k0_pay5 x) l (ix2 (⟨μ.val * 512 + r.val, by omega⟩ : Fin 1024) c))
  | [], _ => by
    refine Row.start _ _ ?_ fun c => ?_
    · exact ofBits_neg_inf_f32
    · exact Ideal.ofBits_zero_f32
  | c :: l, ⟨⟨hk, hv⟩, hl⟩ => by
    rw [List.length_cons, Nat.succ_mul]
    exact Row.step (by omega) (row_val x Q K V hx μ r l hl)
      (fun k => sc (k0_pay5 (F := Ideal) x) (kc c.1) (ix2 (⟨μ.val * 512 + r.val, by omega⟩ : Fin 1024) k))
      (fun k e => (show FVec Ideal S512x256 .bf16 from c.2) (ix2 k e))
      (fun k => sc_val x c.1 Q K _ hx hk μ r k) hv (stepM_apply _ _ _) fun e => stepA_apply _ _ _ _ _ _ _

theorem finish_apply (lam : FVec Ideal S1x1 .f32) (a : FVec Ideal S1024x256 .f32) (g : Vec Ideal S1x128 .f32) (r : Fin 512) (e : Fin 128) :
    finish (F := Ideal) lam a g (ix2 r e)
      = rms (fun x => Ideal.div (a (ix2 (⟨(0 : Fin 2).val * 512 + r.val, by simp; omega⟩ : Fin 1024) (⟨x.val, by omega⟩ : Fin 256)))
            (a (ix2 (⟨(0 : Fin 2).val * 512 + r.val, by simp; omega⟩ : Fin 1024) (128 : Fin 256)))
          - lam (ix2 0 0) * Ideal.div (a (ix2 (⟨(1 : Fin 2).val * 512 + r.val, by simp; omega⟩ : Fin 1024) (⟨x.val, by omega⟩ : Fin 256)))
            (a (ix2 (⟨(1 : Fin 2).val * 512 + r.val, by simp; omega⟩ : Fin 1024) (128 : Fin 256))))
          ((show FVec Ideal S1x128 .f32 from g) (ix2 0 e)) e := by
  rw [finish, pay1_apply]
  pointwise

/-- The attention's output at a row: the difference of two softmaxes' means. -/
def attn (Q : Fin 512 → Fin 128 → ℝ) (K V : ℕ → Fin 128 → ℝ) (L : ℝ) (r : Fin 512) (e : Fin 128) : EReal :=
  ((mix 4608 (score Q K 0 r) (fun k => V k e) - L * mix 4608 (score Q K 1 r) (fun k => V k e) : ℝ) : EReal)

theorem finish_val (x : Vec Ideal S512x128 .f32) (lam : FVec Ideal S1x1 .f32) (g : Vec Ideal S1x128 .f32)
    (Q : Fin 512 → Fin 128 → ℝ) (K V : ℕ → Fin 128 → ℝ) (L : ℝ)
    (l : List (Vec Ideal S1x128x512 .bf16 × Vec Ideal S512x256 .bf16)) (hn : l.length = 9)
    (hx : ∀ r d, (show FVec Ideal S512x128 .f32 from x) (ix2 r d) = ((Q r d : ℝ) : EReal))
    (hL : lam (ix2 0 0) = (L : EReal)) (hl : Good K V l) (r : Fin 512) (e : Fin 128) :
    finish (F := Ideal) lam (sums (k0_pay5 x) l) g (ix2 r e)
      = rms (attn Q K V L r) ((show FVec Ideal S1x128 .f32 from g) (ix2 0 e)) e := by
  rw [finish_apply]
  congr 1
  funext y
  have row := fun μ => row_val x Q K V hx μ r l hl
  rw [hn] at row
  have quot : ∀ μ : Fin 2, Ideal.div
      (sums (F := Ideal) (k0_pay5 x) l (ix2 (⟨μ.val * 512 + r.val, by omega⟩ : Fin 1024) (⟨y.val, by omega⟩ : Fin 256)))
      (sums (F := Ideal) (k0_pay5 x) l (ix2 (⟨μ.val * 512 + r.val, by omega⟩ : Fin 1024) (128 : Fin 256)))
      = ((mix 4608 (score Q K μ r) (fun k => V k y) : ℝ) : EReal) := by
    intro μ
    have h := (row μ).quot (by omega) (⟨y.val, by omega⟩ : Fin 256) (128 : Fin 256) (fun k => by simp [vals]) (score Q K μ r) (fun _ => rfl)
    have hv : (fun k => vals V k (⟨y.val, by omega⟩ : Fin 256)) = fun k => V k y := by
      funext k; simp [vals]
    rw [hv] at h
    exact h
  rw [quot 0, quot 1, hL, attn, ← EReal.coe_mul, ← EReal.coe_sub]

end Cert.Proof

end
-- ==== Proof.Points.lean ====
/- What the points of the grid leave, from the arrays the call is given: the scratch holds the head's values
   beside ones along each run of eight points, and the output block is the row formula of `Block.lean`. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices at every point. -/
theorem idx : ∀ t : Fin cfg0.N, win0_0.index t = ![0, 0] ∧ win0_1.index t = ![8 + t.val / 64 * 8 + t.val % 8, t.val / 8 % 8]
    ∧ win0_2.index t = ![t.val / 64, t.val / 8 % 8, 0] ∧ win0_3.index t = ![t.val / 64, 0, t.val / 8 % 8]
    ∧ win0_4.index t = ![0, 0] ∧ win0_5.index t = ![t.val / 64 * 8 + t.val % 8, t.val / 8 % 8] ∧ t.val < 512 :=
  (by decide +kernel : ∀ t : Fin grid0.N, _)

/-- The values the call is given, at their literal type. -/
abbrev vArr (c : Dev nD) : FVec Ideal S8x4608x1024 .bf16 := V m c main_v28

/-- A grid point's batch and head. -/
abbrev bt (n : ℕ) (h : n < 512) : Fin 8 := ⟨n / 64, by omega⟩
abbrev ht (n : ℕ) : ℕ := n / 8 % 8 * 128

theorem lt512 (t : Fin cfg0.N) : t.val < 512 := (idx t).2.2.2.2.2.2

theorem read3 (c : Dev nD) (t : Fin cfg0.N) (k : Fin 4608) (e : Fin 128) :
    (show FVec Ideal S1x4608x128 .bf16 from iblk m c 3 t) (ix3 0 k e)
      = vArr m c (ix3 (bt t.val (lt512 t)) k ⟨ht t.val + e.val, by unfold ht; omega⟩) := by
  unfold vArr bt ht
  blk_simp [iblk]
  refine congrArg (V m c main_v28) ?_
  funext a
  fin_cases a <;> (apply Fin.ext; blk_simp [idx t] <;> try omega)
  all_goals rfl

/-- The other arrays the call is given, at their literal types. -/
abbrev lArr (c : Dev nD) : FVec Ideal S8x128 .f32 := V m c main_v15
abbrev qArr (c : Dev nD) : FVec Ideal S36864x1024 .f32 := V m c main_arg0
abbrev kArr (c : Dev nD) : FVec Ideal S8x1024x4608 .bf16 := V m c main_v22
abbrev gArr (c : Dev nD) : FVec Ideal S1x128 .f32 := V m c main_v30

theorem read0 (c : Dev nD) (t : Fin cfg0.N) : (show FVec Ideal S8x128 .f32 from iblk m c 0 t) = lArr m c := by
  unfold lArr
  funext y
  blk_simp [iblk]
  refine congrArg (V m c main_v15) ?_
  funext a
  fin_cases a <;> (apply Fin.ext; blk_simp [idx t] <;> try omega)
  all_goals rfl

theorem read1 (c : Dev nD) (t : Fin cfg0.N) (r : Fin 512) (d : Fin 128) :
    (show FVec Ideal S512x128 .f32 from iblk m c 1 t) (ix2 r d)
      = qArr m c (ix2 ⟨(8 + t.val / 64 * 8 + t.val % 8) * 512 + r.val, by have := lt512 t; omega⟩
          ⟨ht t.val + d.val, by unfold ht; omega⟩) := by
  unfold qArr ht
  blk_simp [iblk]
  refine congrArg (V m c main_arg0) ?_
  funext a
  fin_cases a <;> (apply Fin.ext; blk_simp [idx t] <;> try omega)
  all_goals rfl

theorem read2 (c : Dev nD) (t : Fin cfg0.N) (d : Fin 128) (k : Fin 4608) :
    (show FVec Ideal S1x128x4608 .bf16 from iblk m c 2 t) (ix3 0 d k)
      = kArr m c (ix3 (bt t.val (lt512 t)) ⟨ht t.val + d.val, by unfold ht; omega⟩ k) := by
  unfold kArr bt ht
  blk_simp [iblk]
  refine congrArg (V m c main_v22) ?_
  funext a
  fin_cases a <;> (apply Fin.ext; blk_simp [idx t] <;> try omega)
  all_goals rfl

theorem read4 (c : Dev nD) (t : Fin cfg0.N) (e : Fin 128) :
    (show FVec Ideal S1x128 .f32 from iblk m c 4 t) (ix2 0 e) = gArr m c (ix2 0 e) := by
  unfold gArr
  blk_simp [iblk]
  refine congrArg (V m c main_v30) ?_
  funext a
  fin_cases a <;> (apply Fin.ext; blk_simp [idx t] <;> try omega)
  all_goals rfl

/-- What the scratch holds after point `n`. -/
def held (c : Dev nD) (n : ℕ) (hn : n < 512) (k : Fin 4608) (e : Fin 256) : Ideal .bf16 :=
  if h : e.val < 128 then vArr m c (ix3 (bt n hn) k ⟨ht n + e.val, by unfold ht; omega⟩) else (1 : EReal)

theorem one_val : Ideal.ofBits .bf16 0x3F80#16 = 1 := by
  simp [Ideal.ofBits, Ideal.ieee]
  rw [← EReal.coe_mul]
  norm_num

/-- The two stores that fill the scratch. -/
def pieces (x : Vec Ideal S1x4608x128 .bf16) : List (View.Piece (Elt Ideal) S4608x256 .bf16) :=
  [⟨Rect.unit (s := S4608x256) ![0, 128] ![4608, 128] inb_S4608x256_S4608x128_0_128, k0_pay3 (F := Ideal)⟩,
    ⟨Rect.unit (s := S4608x256) ![0, 0] ![4608, 128] inb_S4608x256_S4608x128_0_0, k0_pay2 (F := Ideal) x⟩]

theorem pieces_held (c : Dev nD) (t : Fin cfg0.N) (k : Fin 4608) (e : Fin 256) :
    View.canon (pieces (iblk m c 3 t)) (ix2 k e) = held m c t.val (lt512 t) k e := by
  unfold pieces
  canon_tiles x hx
  · have hx1' : e.val = 128 + (x 1).val := hx1
    rw [held, dif_neg (by omega)]
    unfold k0_pay3
    pointwise []
  · have hx1' : e.val = (x 1).val := hx1
    have hx0' : k.val = (x 0).val := hx0
    rw [held, dif_pos (by omega)]
    have hx : x = ix2 k ⟨e.val, by omega⟩ := by
      funext a; fin_cases a <;> (apply Fin.ext; simp [hx0', hx1'])
    have h3 := read3 m c t k ⟨e.val, by omega⟩
    refine (congrArg (k0_pay2 (iblk m c 3 t)) hx).trans (Eq.trans ?_ h3)
    unfold k0_pay2
    pointwise []

theorem scratch_A (c : Dev nD) (t : Fin cfg0.N) (hc : t.val % 8 = 0) (k : Fin 4608) (e : Fin 256) :
    (outsAt0 m c t.val t.isLt).2 (ix2 k e) = held m c t.val (lt512 t) k e := by
  rw [outsAt0_A m c t hc]
  frame_out
  exact pieces_held m c t k e

theorem scratch_B (c : Dev nD) (t : Fin cfg0.N) (h : ¬ t.val % 8 = 0) (k : Fin 4608) (e : Fin 256) :
    (outsAt0 m c t.val t.isLt).2 (ix2 k e) = (outsAt0 m c (t.val - 1) (by have := t.isLt; omega)).2 (ix2 k e) := by
  rw [outsAt0_B m c t h]
  frame_out
  rfl

theorem scratch (c : Dev nD) (n : ℕ) : ∀ (hn : n < cfg0.N) (h5 : n < 512) (k : Fin 4608) (e : Fin 256),
    (outsAt0 m c n hn).2 (ix2 k e) = held m c n h5 k e := by
  induction n with
  | zero => intro hn h5 k e; exact scratch_A m c ⟨0, hn⟩ rfl k e
  | succ n ih =>
    intro hn h5 k e
    by_cases h : (n + 1) % 8 = 0
    · exact scratch_A m c ⟨n + 1, hn⟩ h k e
    · rw [scratch_B m c ⟨n + 1, hn⟩ h k e]
      refine (ih (by omega) (by omega) k e).trans ?_
      unfold held bt ht
      have h1 : (n + 1) / 64 = n / 64 := by omega
      have h2 : (n + 1) / 8 = n / 8 := by omega
      simp only [h1, h2]

/-- A chunk of keys read from a point's block of transposed keys. -/
theorem ldK (X : Vec Ideal S1x128x4608 .bf16) (o : ℕ) (inb) (d : Fin 128) (k : Fin 512) (ho : o + 512 ≤ 4608) :
    View.ld X (Rect.unit ![0, 0, o] ![1, 128, 512] inb) (ix3 0 d k) = X (ix3 0 d ⟨o + k.val, by omega⟩) := by
  refine (View.ld_apply _ _ _).trans (congrArg X ?_)
  funext a
  fin_cases a <;> (apply Fin.ext; first | rfl | (simp [LoadRect.idx, Rect.toLoadRect, Rect.unit]; done))

/-- A chunk of the scratch, read back from the stores that filled it. -/
theorem ldS {L : List (View.Piece (Elt Ideal) S4608x256 .bf16)} {w : Fin 4608 → Fin 256 → Ideal .bf16}
    (hw : ∀ k e, View.canon L (ix2 k e) = w k e) (v : View sig .tc .vmem S4608x256 .bf16)
    (o : ℕ) (inb) (k : Fin 512) (e : Fin 256) (ho : o + 512 ≤ 4608) :
    (show FVec Ideal S512x256 .bf16 from v.readCov L (Rect.unit (s := S4608x256) ![o, 0] ![512, 256] inb).toLoadRect) (ix2 k e) = w ⟨o + k.val, by omega⟩ e := by
  refine (congrFun (View.readCov_eq_canon' v L _) _).trans (Eq.trans ?_ (hw _ _))
  refine congrArg (View.canon L) ?_
  funext a
  fin_cases a <;> (apply Fin.ext; first | rfl | (simp [LoadRect.idx, Rect.toLoadRect, Rect.unit]; done))

/-- A chunk of the scratch, read as the point before left it. -/
theorem ldU (X : Vec Ideal S4608x256 .bf16) (h) (o : ℕ) (inb) (k : Fin 512) (e : Fin 256) (ho : o + 512 ≤ 4608) :
    View.ld (View.read (Elt Ideal) (View.whole cc0_scratch0) (Memref.IsWhole.unread (m := Memref.whole cc0_scratch0) h X))
      (Rect.unit ![o, 0] ![512, 256] inb) (ix2 k e) = X (ix2 ⟨o + k.val, by omega⟩ e) := by
  refine (congrArg (fun Y => View.ld Y (Rect.unit (s := S4608x256) ![o, 0] ![512, 256] inb) (ix2 k e)) (h.read_unread X)).trans ?_
  refine (View.ld_apply _ _ _).trans (congrArg X ?_)
  funext a
  fin_cases a <;> (apply Fin.ext; first | rfl | (simp [LoadRect.idx, Rect.toLoadRect, Rect.unit]; done))

/-- One point's payload, with its chunks as the body reads them, is the generic fold over the chunks. -/
theorem payload_eq (qq : FVec Ideal S1024x128 .bf16) (k0 k1 k2 k3 k4 k5 k6 k7 k8 : Vec Ideal S1x128x512 .bf16) (x0 x1 x2 x3 x4 x5 x6 x7 x8 : Vec Ideal S512x256 .bf16)
    (lam : FVec Ideal S1x1 .f32) (g : Vec Ideal S1x128 .f32) (y) :
    k0_pay1 (F := Ideal) lam
      (k0_pay33 qq (k0_pay26 (k0_pay19 qq (k0_pay11 qq k2) (k0_pay13 qq k0_pay6 (k0_pay8 k0) (constant S1024x512 .f32 0x00000000#32) k1) (k0_pay15 k3)) (k0_pay21 qq k5) (k0_pay23 qq k4)) (k0_pay27 (k0_pay19 qq (k0_pay11 qq k2) (k0_pay13 qq k0_pay6 (k0_pay8 k0) (constant S1024x512 .f32 0x00000000#32) k1) (k0_pay15 k3)) (k0_pay20 qq (k0_pay11 qq k2) (k0_pay13 qq k0_pay6 (k0_pay8 k0) (constant S1024x512 .f32 0x00000000#32) k1) (k0_pay14 qq k0_pay6 k0_pay7 (k0_pay8 k0) (constant S1024x512 .f32 0x00000000#32) k1 x0 x1) (k0_pay15 k3) x2 x3) (k0_pay21 qq k5) (k0_pay22 qq k4) (k0_pay23 qq k4) x4 x5) (k0_pay28 qq k7) (k0_pay30 qq (k0_pay19 qq (k0_pay11 qq k2) (k0_pay13 qq k0_pay6 (k0_pay8 k0) (constant S1024x512 .f32 0x00000000#32) k1) (k0_pay15 k3)) (k0_pay21 qq k5) (k0_pay23 qq k4) k6) (k0_pay31 qq (k0_pay19 qq (k0_pay11 qq k2) (k0_pay13 qq k0_pay6 (k0_pay8 k0) (constant S1024x512 .f32 0x00000000#32) k1) (k0_pay15 k3)) (k0_pay21 qq k5) (k0_pay23 qq k4) k6) x6 k8 x7 x8)
      (k0_pay34 qq (k0_pay26 (k0_pay19 qq (k0_pay11 qq k2) (k0_pay13 qq k0_pay6 (k0_pay8 k0) (constant S1024x512 .f32 0x00000000#32) k1) (k0_pay15 k3)) (k0_pay21 qq k5) (k0_pay23 qq k4)) (k0_pay27 (k0_pay19 qq (k0_pay11 qq k2) (k0_pay13 qq k0_pay6 (k0_pay8 k0) (constant S1024x512 .f32 0x00000000#32) k1) (k0_pay15 k3)) (k0_pay20 qq (k0_pay11 qq k2) (k0_pay13 qq k0_pay6 (k0_pay8 k0) (constant S1024x512 .f32 0x00000000#32) k1) (k0_pay14 qq k0_pay6 k0_pay7 (k0_pay8 k0) (constant S1024x512 .f32 0x00000000#32) k1 x0 x1) (k0_pay15 k3) x2 x3) (k0_pay21 qq k5) (k0_pay22 qq k4) (k0_pay23 qq k4) x4 x5) (k0_pay28 qq k7) (k0_pay30 qq (k0_pay19 qq (k0_pay11 qq k2) (k0_pay13 qq k0_pay6 (k0_pay8 k0) (constant S1024x512 .f32 0x00000000#32) k1) (k0_pay15 k3)) (k0_pay21 qq k5) (k0_pay23 qq k4) k6) (k0_pay31 qq (k0_pay19 qq (k0_pay11 qq k2) (k0_pay13 qq k0_pay6 (k0_pay8 k0) (constant S1024x512 .f32 0x00000000#32) k1) (k0_pay15 k3)) (k0_pay21 qq k5) (k0_pay23 qq k4) k6) x6 k8 x7 x8) g y
      = finish lam (sums qq [(k8, x8), (k7, x7), (k6, x6), (k5, x5), (k4, x4), (k3, x3), (k2, x2), (k1, x1), (k0, x0)]) g y :=
  congrFun (out_eq qq k0 k1 k2 k3 k4 k5 k6 k7 k8 x0 x1 x2 x3 x4 x5 x6 x7 x8 lam g _ _ _ _ _ _ _ _ rfl rfl rfl rfl rfl rfl rfl rfl) y

theorem good_cons {K V : ℕ → Fin 128 → ℝ} {l : List (Vec Ideal S1x128x512 .bf16 × Vec Ideal S512x256 .bf16)}
    {x : Vec Ideal S1x128x512 .bf16} {y : Vec Ideal S512x256 .bf16} (n : ℕ) (hn : l.length = n)
    (hx : ∀ (d : Fin 128) (k : Fin 512), (show FVec Ideal S1x128x512 .bf16 from x) (ix3 0 d k) = ((K (n * 512 + k.val) d : ℝ) : EReal))
    (hy : ∀ (k : Fin 512) (e : Fin 256), (show FVec Ideal S512x256 .bf16 from y) (ix2 k e) = ((vals V (n * 512 + k.val) e : ℝ) : EReal))
    (hl : Good K V l) : Good K V ((x, y) :: l) := by
  subst hn; exact ⟨⟨hx, hy⟩, hl⟩

section Real

variable (c : Dev nD) (t : Fin cfg0.N) (Q : Fin 512 → Fin 128 → ℝ) (K U : ℕ → Fin 128 → ℝ) (L : ℝ)

/-- The point's block of every array is real, and is `Q`, `K`, `U` and `L`. -/
structure RealAt : Prop where
  q : ∀ (r : Fin 512) (d : Fin 128), qArr m c (ix2 ⟨(8 + t.val / 64 * 8 + t.val % 8) * 512 + r.val, by have := lt512 t; omega⟩
          ⟨ht t.val + d.val, by unfold ht; omega⟩) = ((Q r d : ℝ) : EReal)
  k : ∀ (d : Fin 128) (k : Fin 4608),
    kArr m c (ix3 (bt t.val (lt512 t)) ⟨ht t.val + d.val, by unfold ht; omega⟩ k) = ((K k.val d : ℝ) : EReal)
  v : ∀ (k : Fin 4608) (e : Fin 128),
    vArr m c (ix3 (bt t.val (lt512 t)) k ⟨ht t.val + e.val, by unfold ht; omega⟩) = ((U k.val e : ℝ) : EReal)
  l : Ideal.exp (∑ x : Fin 128, lArr m c (ix2 0 x) * lArr m c (ix2 1 x))
      - Ideal.exp (∑ x : Fin 128, lArr m c (ix2 2 x) * lArr m c (ix2 3 x)) + Ideal.ofBits .f32 0x3EB60549#32 = ((L : ℝ) : EReal)

variable {m c t Q K U L} (R : RealAt m c t Q K U L)
include R

theorem RealAt.keyAt (d : Fin 128) (k : Fin 512) (n : ℕ) (h : n * 512 + 512 ≤ 4608) :
    (show FVec Ideal S1x128x4608 .bf16 from iblk m c 2 t) (ix3 0 d ⟨n * 512 + k.val, by omega⟩) = ((K (n * 512 + k.val) d : ℝ) : EReal) :=
  (read2 m c t d _).trans (R.k d ⟨n * 512 + k.val, by omega⟩)

theorem RealAt.valAt (k : Fin 512) (e : Fin 256) (n : ℕ) (h : n * 512 + 512 ≤ 4608) :
    held m c t.val (lt512 t) ⟨n * 512 + k.val, by omega⟩ e = ((vals U (n * 512 + k.val) e : ℝ) : EReal) := by
  unfold held vals
  by_cases h : e.val < 128
  · rw [dif_pos h, dif_pos h]; exact R.v ⟨n * 512 + k.val, by omega⟩ ⟨e.val, h⟩
  · rw [dif_neg h, dif_neg h]; rfl

theorem RealAt.lamAt : k0_pay4 (F := Ideal) (iblk m c 0 t) (ix2 0 0) = ((L : ℝ) : EReal) :=
  (congrArg (fun lv : FVec Ideal S8x128 .f32 => k0_pay4 (F := Ideal) lv (ix2 0 0)) (read0 m c t)).trans ((pay4_apply _).trans R.l)

set_option maxHeartbeats 4000000 in
/-- The output block of the first point of a run. -/
theorem RealAt.out_A (hc : t.val % 8 = 0) (r : Fin 512) (e : Fin 128) :
    (outsAt0 m c t.val t.isLt).1 (ix2 r e) = rms (attn Q K U L r) (gArr m c (ix2 0 e)) e := by
  have hs := pieces_held m c t
  have keyAt := R.keyAt
  have valAt := R.valAt
  rw [outsAt0_A m c t hc]
  frame_out
  refine (payload_eq _ _ _ _ _ _ _ _ _ _ _ _ _ _ _ _ _ _ _ _ _ _).trans ?_
  refine (finish_val _ _ _ Q K U L _ rfl (fun r d => (read1 m c t r d).trans (R.q r d)) R.lamAt ?_ r e).trans
    (congrArg (fun z => rms (attn Q K U L r) z e) (read4 m c t e))
  refine good_cons 8 rfl (fun d k => (ldK _ 4096 _ d k (by norm_num)).trans (keyAt d k 8 (by norm_num))) (fun k e => (ldS hs _ 4096 _ k e (by norm_num)).trans (valAt k e 8 (by norm_num))) ?_
  refine good_cons 7 rfl (fun d k => (ldK _ 3584 _ d k (by norm_num)).trans (keyAt d k 7 (by norm_num))) (fun k e => (ldS hs _ 3584 _ k e (by norm_num)).trans (valAt k e 7 (by norm_num))) ?_
  refine good_cons 6 rfl (fun d k => (ldK _ 3072 _ d k (by norm_num)).trans (keyAt d k 6 (by norm_num))) (fun k e => (ldS hs _ 3072 _ k e (by norm_num)).trans (valAt k e 6 (by norm_num))) ?_
  refine good_cons 5 rfl (fun d k => (ldK _ 2560 _ d k (by norm_num)).trans (keyAt d k 5 (by norm_num))) (fun k e => (ldS hs _ 2560 _ k e (by norm_num)).trans (valAt k e 5 (by norm_num))) ?_
  refine good_cons 4 rfl (fun d k => (ldK _ 2048 _ d k (by norm_num)).trans (keyAt d k 4 (by norm_num))) (fun k e => (ldS hs _ 2048 _ k e (by norm_num)).trans (valAt k e 4 (by norm_num))) ?_
  refine good_cons 3 rfl (fun d k => (ldK _ 1536 _ d k (by norm_num)).trans (keyAt d k 3 (by norm_num))) (fun k e => (ldS hs _ 1536 _ k e (by norm_num)).trans (valAt k e 3 (by norm_num))) ?_
  refine good_cons 2 rfl (fun d k => (ldK _ 1024 _ d k (by norm_num)).trans (keyAt d k 2 (by norm_num))) (fun k e => (ldS hs _ 1024 _ k e (by norm_num)).trans (valAt k e 2 (by norm_num))) ?_
  refine good_cons 1 rfl (fun d k => (ldK _ 512 _ d k (by norm_num)).trans (keyAt d k 1 (by norm_num))) (fun k e => (ldS hs _ 512 _ k e (by norm_num)).trans (valAt k e 1 (by norm_num))) ?_
  refine good_cons 0 rfl (fun d k => (ldK _ 0 _ d k (by norm_num)).trans (keyAt d k 0 (by norm_num))) (fun k e => (ldS hs _ 0 _ k e (by norm_num)).trans (valAt k e 0 (by norm_num))) ?_
  exact trivial

set_option maxHeartbeats 4000000 in
/-- The output block of a later point of a run. -/
theorem RealAt.out_B (hc : ¬ t.val % 8 = 0) (r : Fin 512) (e : Fin 128) :
    (outsAt0 m c t.val t.isLt).1 (ix2 r e) = rms (attn Q K U L r) (gArr m c (ix2 0 e)) e := by
  have hs : ∀ k e, (outsAt0 m c (t.val - 1) (by have := t.isLt; omega)).2 (ix2 k e) = held m c t.val (lt512 t) k e :=
    fun k e => (scratch_B m c t hc k e).symm.trans (scratch m c t.val t.isLt (lt512 t) k e)
  have keyAt := R.keyAt
  have valAt := R.valAt
  rw [outsAt0_B m c t hc]
  frame_out
  refine (payload_eq _ _ _ _ _ _ _ _ _ _ _ _ _ _ _ _ _ _ _ _ _ _).trans ?_
  refine (finish_val _ _ _ Q K U L _ rfl (fun r d => (read1 m c t r d).trans (R.q r d)) R.lamAt ?_ r e).trans
    (congrArg (fun z => rms (attn Q K U L r) z e) (read4 m c t e))
  refine good_cons 8 rfl (fun d k => (ldK _ 4096 _ d k (by norm_num)).trans (keyAt d k 8 (by norm_num))) (fun k e => ((ldU _ (Memref.isWhole_whole _) 4096 _ k e (by norm_num)).trans (hs _ _)).trans (valAt k e 8 (by norm_num))) ?_
  refine good_cons 7 rfl (fun d k => (ldK _ 3584 _ d k (by norm_num)).trans (keyAt d k 7 (by norm_num))) (fun k e => ((ldU _ (Memref.isWhole_whole _) 3584 _ k e (by norm_num)).trans (hs _ _)).trans (valAt k e 7 (by norm_num))) ?_
  refine good_cons 6 rfl (fun d k => (ldK _ 3072 _ d k (by norm_num)).trans (keyAt d k 6 (by norm_num))) (fun k e => ((ldU _ (Memref.isWhole_whole _) 3072 _ k e (by norm_num)).trans (hs _ _)).trans (valAt k e 6 (by norm_num))) ?_
  refine good_cons 5 rfl (fun d k => (ldK _ 2560 _ d k (by norm_num)).trans (keyAt d k 5 (by norm_num))) (fun k e => ((ldU _ (Memref.isWhole_whole _) 2560 _ k e (by norm_num)).trans (hs _ _)).trans (valAt k e 5 (by norm_num))) ?_
  refine good_cons 4 rfl (fun d k => (ldK _ 2048 _ d k (by norm_num)).trans (keyAt d k 4 (by norm_num))) (fun k e => ((ldU _ (Memref.isWhole_whole _) 2048 _ k e (by norm_num)).trans (hs _ _)).trans (valAt k e 4 (by norm_num))) ?_
  refine good_cons 3 rfl (fun d k => (ldK _ 1536 _ d k (by norm_num)).trans (keyAt d k 3 (by norm_num))) (fun k e => ((ldU _ (Memref.isWhole_whole _) 1536 _ k e (by norm_num)).trans (hs _ _)).trans (valAt k e 3 (by norm_num))) ?_
  refine good_cons 2 rfl (fun d k => (ldK _ 1024 _ d k (by norm_num)).trans (keyAt d k 2 (by norm_num))) (fun k e => ((ldU _ (Memref.isWhole_whole _) 1024 _ k e (by norm_num)).trans (hs _ _)).trans (valAt k e 2 (by norm_num))) ?_
  refine good_cons 1 rfl (fun d k => (ldK _ 512 _ d k (by norm_num)).trans (keyAt d k 1 (by norm_num))) (fun k e => ((ldU _ (Memref.isWhole_whole _) 512 _ k e (by norm_num)).trans (hs _ _)).trans (valAt k e 1 (by norm_num))) ?_
  refine good_cons 0 rfl (fun d k => (ldK _ 0 _ d k (by norm_num)).trans (keyAt d k 0 (by norm_num))) (fun k e => ((ldU _ (Memref.isWhole_whole _) 0 _ k e (by norm_num)).trans (hs _ _)).trans (valAt k e 0 (by norm_num))) ?_
  exact trivial

theorem RealAt.out (r : Fin 512) (e : Fin 128) :
    (outsAt0 m c t.val t.isLt).1 (ix2 r e) = rms (attn Q K U L r) (gArr m c (ix2 0 e)) e := by
  by_cases h : t.val % 8 = 0
  · exact R.out_A h r e
  · exact R.out_B h r e

end Real

end Cert.Proof

end
-- ==== Proof.Host.lean ====
/- The arrays the call is given, at an index, from the arguments: the vector of differences' four rows, the keys
   (the prompt's, then the cache's), transposed, and the values likewise. -/
module

public import proofs.«01_k».proof.Proof.Points
public import Idealize.ShloMosaic.Lib.Pointwise
public import Idealize.ShloMosaic.Lib.Claim
public import Idealize.ShloMosaic.Lib.Routing.OpsOne

@[expose] public section

set_option maxRecDepth 16384

noncomputable section

namespace Cert.Proof

open Idealize.ShloMosaic Idealize.ShloMosaic.TcCoe Idealize.SL.Sem Idealize.ShloMosaic.Routing
open Cert.KernelIdeal Cert.KernelIdeal.Gen

variable (m : (ℓ : Loc nD τ sig) → Buf (Elt Ideal) ℓ)

/-- The arguments, at their literal types. -/
abbrev qIn (c : Dev nD) : FVec Ideal S36864x1024 .f32 := m (c, Proc.tc.devRef main_arg0)
abbrev kIn (c : Dev nD) : FVec Ideal S36864x1024 .f32 := m (c, Proc.tc.devRef main_arg1)
abbrev vIn (c : Dev nD) : FVec Ideal S36864x1024 .f32 := m (c, Proc.tc.devRef main_arg2)
abbrev kCache (c : Dev nD) : FVec Ideal S8x1x512x8x128 .f32 := m (c, Proc.tc.devRef main_arg3)
abbrev vCache (c : Dev nD) : FVec Ideal S8x1x512x8x128 .f32 := m (c, Proc.tc.devRef main_arg4)
abbrev lq1 (c : Dev nD) : FVec Ideal S1x64 .f32 := m (c, Proc.tc.devRef main_arg5)
abbrev lk1 (c : Dev nD) : FVec Ideal S1x64 .f32 := m (c, Proc.tc.devRef main_arg6)
abbrev lq2 (c : Dev nD) : FVec Ideal S1x64 .f32 := m (c, Proc.tc.devRef main_arg7)
abbrev lk2 (c : Dev nD) : FVec Ideal S1x64 .f32 := m (c, Proc.tc.devRef main_arg8)
abbrev gIn (c : Dev nD) : FVec Ideal S1x128 .f32 := m (c, Proc.tc.devRef main_arg9)

theorem gArr_at (c : Dev nD) (e : Fin 128) : gArr m c (ix2 0 e) = gIn m c (ix2 0 e) := by
  unfold gArr
  entry_read
  pointwise []

theorem qArr_eq (c : Dev nD) : qArr m c = qIn m c := V_main_arg0 m c

theorem vArr_at (c : Dev nD) (b : Fin 8) (k : Fin 4608) (h : Fin 1024) :
    vArr m c (ix3 b k h) = if hk : k.val < 4096 then vIn m c (ix2 ⟨4096 + (b.val * 4096 + k.val), by omega⟩ h)
      else vCache m c (ix5 b 0 ⟨k.val - 4096, by omega⟩ ⟨h.val / 128, by omega⟩ ⟨h.val % 128, by omega⟩) := by
  unfold vArr
  entry_read
  pointwise []

theorem kArr_at (c : Dev nD) (b : Fin 8) (k : Fin 4608) (h : Fin 1024) :
    kArr m c (ix3 b h k) = if hk : k.val < 4096 then kIn m c (ix2 ⟨4096 + (b.val * 4096 + k.val), by omega⟩ h)
      else kCache m c (ix5 b 0 ⟨k.val - 4096, by omega⟩ ⟨h.val / 128, by omega⟩ ⟨h.val % 128, by omega⟩) := by
  unfold kArr
  entry_read
  pointwise []

/-! ## The scatter that lays the four vectors of the difference into one block -/

theorem lands (idx : IVec S2 32) (h0 : (idx (ix1 0)).toInt = 0) (h1 : (idx (ix1 1)).toInt = 0) (k : S4x64.Idx) (r : Fin 8) (e : Fin 128) :
    scatter_S8x128_S2_S4x64_01_n_01_0.resultIdx? k idx = some (ix2 r e) ↔ (k 0).val = r.val ∧ (k 1).val = e.val := by
  have hw : ∀ q : Fin 2, scatter_S8x128_S2_S4x64_01_n_01_0.window k q = (k q).val := fun q => by
    fin_cases q <;> rfl
  rw [show (ix2 r e : S8x128.Idx) = ValueIdx.ix2 r e from rfl]
  refine (resultIdx?_ix2 scatter_S8x128_S2_S4x64_01_n_01_0 k idx r e).trans ?_
  have h0' : (idx (ValueIdx.ix1 0)).toInt = 0 := h0
  have h1' : (idx (ValueIdx.ix1 1)).toInt = 0 := h1
  rw [start_pair _ rfl rfl, start_pair _ rfl rfl, hw, hw, h0', h1']
  omega

/-- One of the four vectors as a row. -/
abbrev row (x : FVec Ideal S1x64 .f32) : FVec Ideal S1x64 .f32 :=
  broadcastInDim S1x64 ![1] bcast_S64_S1x64_1 (shapeCast S64 x shapeCasts_S1x64_S64)

/-- The four vectors, one a row. -/
abbrev rows (c : Dev nD) : FVec Ideal S4x64 .f32 :=
  concatenate S4x64 0 [⟨S1x64, row (lq1 m c)⟩, ⟨S1x64, row (lk1 m c)⟩, ⟨S1x64, row (lq2 m c)⟩, ⟨S1x64, row (lk2 m c)⟩]
    concatenates_S1x64_S1x64_S1x64_S1x64_S4x64_d0

/-- The start of the rows in the block: its corner. -/
abbrev corner : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- A block of zeros. -/
abbrev zeros : FVec Ideal S8x128 .f32 := broadcastInDim S8x128 ![] bcast_S_S8x128 (constant (F := Ideal) S_ .f32 0x00000000#32)

theorem v2_eq (c : Dev nD) : (show FVec Ideal S8x128 .f32 from V m c main_v2) = zeros := by
  unfold zeros
  entry_read
  rfl

theorem v14_eq (c : Dev nD) : (show IVec S2 32 from V m c main_v14) = corner := by
  unfold corner
  entry_read
  rfl

theorem v7_eq (c : Dev nD) : (show FVec Ideal S1x64 .f32 from V m c main_v7) = row (lq1 m c) := by
  unfold row
  entry_read
  rfl

theorem v8_eq (c : Dev nD) : (show FVec Ideal S1x64 .f32 from V m c main_v8) = row (lk1 m c) := by
  unfold row
  entry_read
  rfl

theorem v9_eq (c : Dev nD) : (show FVec Ideal S1x64 .f32 from V m c main_v9) = row (lq2 m c) := by
  unfold row
  entry_read
  rfl

theorem v10_eq (c : Dev nD) : (show FVec Ideal S1x64 .f32 from V m c main_v10) = row (lk2 m c) := by
  unfold row
  entry_read
  rfl

/-- What a line of operations leaves in the result of an operation of four operands in its middle, from what it leaves
    in the operands, none of which is written afterwards. -/
theorem after_nary4 {Val : EltTy → Type} [∀ e, Nonempty (Val e)] (L₁ L₂ : List (HloOp τ sig Val)) (σ : Valuation τ sig Val) (x a b c y : Ref sig .tc)
    (f : ((k : Fin 4) → ((![x, a, b, c] : Fin 4 → Ref sig .tc) k).ty.Contents Val) → y.ty.Contents Val) (hxs hy) (W : List (Ref sig .tc))
    (hW : L₂.map HloOp.writes = W.map fun r => {Proc.devRef (τ := τ) .tc r})
    (hyW : y ∉ W) (hxW : x ∉ y :: W) (haW : a ∉ y :: W) (hbW : b ∉ y :: W) (hcW : c ∉ y :: W) (L : List (HloOp τ sig Val))
    (hL : L = L₁ ++ StableHlo.nary ![x, a, b, c] y f hxs hy :: L₂) :
    StableHlo.after L σ y
      = f (Fin.cons (StableHlo.after L σ x) (Fin.cons (StableHlo.after L σ a) (Fin.cons (StableHlo.after L σ b)
          (Fin.cons (StableHlo.after L σ c) (fun i => i.elim0))))) := by
  subst hL
  have hW₂ := StableHlo.forall_writes_sub_of_map hW
  have hW₁ : (StableHlo.nary ![x, a, b, c] y f hxs hy :: L₂).map HloOp.writes = (y :: W).map fun r => {Proc.devRef (τ := τ) .tc r} := by
    rw [List.map_cons, List.map_cons, hW]; rfl
  have hW₁ := StableHlo.forall_writes_sub_of_map hW₁
  rw [StableHlo.after_append]
  rw [StableHlo.after_of_writes_sub _ _ hW₁ hxW, StableHlo.after_of_writes_sub _ _ hW₁ haW, StableHlo.after_of_writes_sub _ _ hW₁ hbW,
    StableHlo.after_of_writes_sub _ _ hW₁ hcW, StableHlo.after_cons, StableHlo.after_of_writes_sub _ _ hW₂ hyW]
  exact StableHlo.nary4_result ..

theorem v11_at (c : Dev nD) : (show FVec Ideal S4x64 .f32 from V m c main_v11) = concatenate S4x64 0
    [⟨S1x64, (show FVec Ideal S1x64 .f32 from V m c main_v7)⟩, ⟨S1x64, (show FVec Ideal S1x64 .f32 from V m c main_v8)⟩,
      ⟨S1x64, (show FVec Ideal S1x64 .f32 from V m c main_v9)⟩, ⟨S1x64, (show FVec Ideal S1x64 .f32 from V m c main_v10)⟩]
    concatenates_S1x64_S1x64_S1x64_S1x64_S4x64_d0 :=
  after_nary4 (hostOps0.take 12) (hostOps0.drop 13) _ main_v7 main_v8 main_v9 main_v10 main_v11
    (fun u => concatenate S4x64 0 [⟨S1x64, u 0⟩, ⟨S1x64, u 1⟩, ⟨S1x64, u 2⟩, ⟨S1x64, u 3⟩] concatenates_S1x64_S1x64_S1x64_S1x64_S4x64_d0) _ _
    [main_c, main_v12, main_c_0, main_v13, main_v14, main_v15, main_v16, main_v17, main_v18, main_v19, main_v20, main_v21, main_v22, main_v23, main_v24, main_v25, main_v26, main_v27, main_v28, main_v29, main_v30]
    rfl (by decide) (by decide) (by decide) (by decide) (by decide) hostOps0 rfl

theorem v11_eq (c : Dev nD) : (show FVec Ideal S4x64 .f32 from V m c main_v11) = rows m c := by
  rw [v11_at, v7_eq, v8_eq, v9_eq, v10_eq]

/-- What a line of operations leaves in the result of a ternary operation in its middle, from what it leaves in the
    operands, none of which is written afterwards. -/
theorem after_ternary {Val : EltTy → Type} [∀ e, Nonempty (Val e)] (L₁ L₂ : List (HloOp τ sig Val)) (σ : Valuation τ sig Val) (c a b y : Ref sig .tc)
    (f : c.ty.Contents Val → a.ty.Contents Val → b.ty.Contents Val → y.ty.Contents Val) (hc ha hb hy) (W : List (Ref sig .tc))
    (hW : L₂.map HloOp.writes = W.map fun r => {Proc.devRef (τ := τ) .tc r})
    (hyW : y ∉ W) (hcW : c ∉ y :: W) (haW : a ∉ y :: W) (hbW : b ∉ y :: W) :
    StableHlo.after (L₁ ++ StableHlo.ternary c a b y f hc ha hb hy :: L₂) σ y
      = f (StableHlo.after (L₁ ++ StableHlo.ternary c a b y f hc ha hb hy :: L₂) σ c)
          (StableHlo.after (L₁ ++ StableHlo.ternary c a b y f hc ha hb hy :: L₂) σ a)
          (StableHlo.after (L₁ ++ StableHlo.ternary c a b y f hc ha hb hy :: L₂) σ b) := by
  have hW₂ := StableHlo.forall_writes_sub_of_map hW
  have hW₁ : (StableHlo.ternary c a b y f hc ha hb hy :: L₂).map HloOp.writes = (y :: W).map fun r => {Proc.devRef (τ := τ) .tc r} := by
    rw [List.map_cons, List.map_cons, hW]; rfl
  have hW₁ := StableHlo.forall_writes_sub_of_map hW₁
  rw [StableHlo.after_append]
  rw [StableHlo.after_of_writes_sub _ _ hW₁ hcW, StableHlo.after_of_writes_sub _ _ hW₁ haW, StableHlo.after_of_writes_sub _ _ hW₁ hbW,
    StableHlo.after_cons, StableHlo.after_of_writes_sub _ _ hW₂ hyW]
  exact StableHlo.ternary_result ..

theorem v15_at (c : Dev nD) : lArr m c = Host.scatter scatter_S8x128_S2_S4x64_01_n_01_0 (fun _ b => b)
    (show FVec Ideal S8x128 .f32 from V m c main_v2) (show IVec S2 32 from V m c main_v14) (show FVec Ideal S4x64 .f32 from V m c main_v11) :=
  after_ternary (hostOps0.take 18) (hostOps0.drop 19) _ main_v2 main_v14 main_v11 main_v15 _ _ _ _ _
    [main_v16, main_v17, main_v18, main_v19, main_v20, main_v21, main_v22, main_v23, main_v24, main_v25, main_v26, main_v27, main_v28, main_v29, main_v30]
    rfl (by decide) (by decide) (by decide) (by decide)

theorem v15_eq (c : Dev nD) : lArr m c = Host.scatter scatter_S8x128_S2_S4x64_01_n_01_0 (fun _ b => b) zeros corner (rows m c) := by
  rw [v15_at, v2_eq, v14_eq, v11_eq]

theorem corner_at : (corner (ix1 0)).toInt = 0 ∧ (corner (ix1 1)).toInt = 0 := by
  constructor <;> pointwise [corner] <;> rfl

/-- The four vectors, read off the rows. -/
theorem rows_at (c : Dev nD) (x : Fin 64) : rows m c (ix2 0 x) = lq1 m c (ix2 0 x) ∧ rows m c (ix2 1 x) = lk1 m c (ix2 0 x)
    ∧ rows m c (ix2 2 x) = lq2 m c (ix2 0 x) ∧ rows m c (ix2 3 x) = lk2 m c (ix2 0 x) := by
  refine ⟨?_, ?_, ?_, ?_⟩ <;> (unfold rows row; pointwise [])

theorem lArr_in (c : Dev nD) (a : Fin 4) (x : Fin 64) :
    lArr m c (ix2 ⟨a.val, by omega⟩ ⟨x.val, by omega⟩) = rows m c (ix2 a x) := by
  rw [v15_eq]
  refine scatter_set_hit _ _ _ _ _ _ (fun k hk => ?_) (ix2 a x) ((lands _ corner_at.1 corner_at.2 _ _ _).2 ⟨rfl, rfl⟩)
  have h := (lands _ corner_at.1 corner_at.2 _ _ _).1 hk
  refine congrArg (rows m c) ?_
  funext q
  fin_cases q
  · exact Fin.ext h.1
  · exact Fin.ext h.2

theorem lArr_out (c : Dev nD) (a : Fin 8) (x : Fin 128) (h : 64 ≤ x.val) : lArr m c (ix2 a x) = (0 : EReal) := by
  rw [v15_eq]
  refine (scatter_set_miss _ _ _ _ _ fun k hk => ?_).trans ?_
  · have h := (lands _ corner_at.1 corner_at.2 _ _ _).1 hk
    have := (k 1).isLt
    have e : S4x64.size 1 = 64 := rfl
    omega
  · unfold zeros
    pointwise []

/-- The sum over a row's 128 lanes is the sum over the 64 that are not zero. -/
theorem lane_sum (c : Dev nD) (a b : Fin 4) :
    (∑ x : Fin 128, lArr m c (ix2 ⟨a.val, by omega⟩ x) * lArr m c (ix2 ⟨b.val, by omega⟩ x) : EReal)
      = ∑ x : Fin 64, rows m c (ix2 a x) * rows m c (ix2 b x) := by
  rw [Fin.sum_univ_add (a := 64) (b := 64) (fun x : Fin (64 + 64) => (lArr m c (ix2 ⟨a.val, by omega⟩ x) * lArr m c (ix2 ⟨b.val, by omega⟩ x) : EReal))]
  rw [Finset.sum_eq_zero (s := Finset.univ) (f := fun i : Fin 64 => (lArr m c (ix2 ⟨a.val, by omega⟩ (Fin.natAdd 64 i)) * lArr m c (ix2 ⟨b.val, by omega⟩ (Fin.natAdd 64 i)) : EReal)), add_zero]
  · exact Finset.sum_congr rfl fun x _ => congrArg₂ (fun p q : EReal => p * q) (lArr_in m c a x) (lArr_in m c b x)
  · intro x _
    rw [lArr_out m c _ _ (by simp), zero_mul]

end Cert.Proof

end
-- ==== Proof.Stages.lean ====
/- The reference's result at an index: the softmaxes of the two halves' scores, their difference applied to the values,
   normalised. -/
module

public import proofs.«01_k».proof.Proof.Gen.ReferenceIdeal.Run
public import proofs.«01_k».proof.Proof.Block
public import Idealize.ShloMosaic.Lib.Pointwise

@[expose] public section

set_option maxRecDepth 16384

noncomputable section

namespace Cert.Proof.Ref

open Idealize.ShloMosaic Idealize.ShloMosaic.TcCoe Idealize.SL.Sem
open Cert.ReferenceIdeal Cert.ReferenceIdeal.Gen

/-- The latent queries, by batch, position, head and half. -/
def qs (q : FVec Ideal S36864x1024 .f32) : FVec Ideal S8x4096x8x2x64 .f32 :=
  shapeCast _ (extractStridedSlice S32768x1024 ![4096, 0] q slices_S36864x1024_S32768x1024_4096_0) shapeCasts_S32768x1024_S8x4096x8x2x64

/-- The latent keys, then the cache's. -/
def ks (k : FVec Ideal S36864x1024 .f32) (ck : FVec Ideal S8x1x512x8x128 .f32) : FVec Ideal S8x4608x8x2x64 .f32 :=
  concatenate S8x4608x8x2x64 1 [⟨S8x4096x8x2x64, qs k⟩,
    ⟨S8x512x8x2x64, shapeCast _ (shapeCast _ ck shapeCasts_S8x1x512x8x128_S8x512x8x128) shapeCasts_S8x512x8x128_S8x512x8x2x64⟩]
    concatenates_S8x4096x8x2x64_S8x512x8x2x64_S8x4608x8x2x64_d1

/-- The latent values, then the cache's. -/
def vs (v : FVec Ideal S36864x1024 .f32) (cv : FVec Ideal S8x1x512x8x128 .f32) : FVec Ideal S8x4608x8x128 .f32 :=
  concatenate S8x4608x8x128 1 [⟨S8x4096x8x128, shapeCast _ (extractStridedSlice S32768x1024 ![4096, 0] v slices_S36864x1024_S32768x1024_4096_0) shapeCasts_S32768x1024_S8x4096x8x128⟩,
    ⟨S8x512x8x128, shapeCast _ cv shapeCasts_S8x1x512x8x128_S8x512x8x128⟩] concatenates_S8x4096x8x128_S8x512x8x128_S8x4608x8x128_d1

/-- The scaled scores. -/
def scores (q : FVec Ideal S8x4096x8x2x64 .f32) (k : FVec Ideal S8x4608x8x2x64 .f32) : FVec Ideal S8x2x8x4096x4608 .f32 :=
  mulf (Host.dotGeneral dot_S8x4096x8x2x64_S8x4608x8x2x64_S8x2x8x4096x4608_4_4_1_1_032_032 none q k)
    (broadcastInDim S8x2x8x4096x4608 ![] bcast_S_S8x2x8x4096x4608 (constant S_ .f32 0x3E000000#32))

/-- The row maxima. -/
def maxima (s : FVec Ideal S8x2x8x4096x4608 .f32) : FVec Ideal S8x2x8x4096 .f32 :=
  maximumf (broadcastInDim S8x2x8x4096 ![] bcast_S_S8x2x8x4096 (constant S_ .f32 0xFF800000#32))
    (Host.reduce FloatOps.maximumf s (constant S_ .f32 0xFF800000#32) reducesTo_S8x2x8x4096x4608_S8x2x8x4096_d4 h_S_)

/-- The exponentials of the scores below their maximum. -/
def expos (s : FVec Ideal S8x2x8x4096x4608 .f32) (M : FVec Ideal S8x2x8x4096 .f32) : FVec Ideal S8x2x8x4096x4608 .f32 :=
  Host.exp (subf s (broadcastInDim S8x2x8x4096x4608 ![0, 1, 2, 3, 4] bcast_S8x2x8x4096x1_S8x2x8x4096x4608_0_1_2_3_4
    (broadcastInDim S8x2x8x4096x1 ![0, 1, 2, 3] bcast_S8x2x8x4096_S8x2x8x4096x1_0_1_2_3 M)))

/-- The softmaxes. -/
def softs (e : FVec Ideal S8x2x8x4096x4608 .f32) : FVec Ideal S8x2x8x4096x4608 .f32 :=
  Host.divf e (broadcastInDim S8x2x8x4096x4608 ![0, 1, 2, 3, 4] bcast_S8x2x8x4096x1_S8x2x8x4096x4608_0_1_2_3_4
    (broadcastInDim S8x2x8x4096x1 ![0, 1, 2, 3] bcast_S8x2x8x4096_S8x2x8x4096x1_0_1_2_3
      (Host.reduceAdd e (constant S_ .f32 0x00000000#32) reducesTo_S8x2x8x4096x4608_S8x2x8x4096_d4 h_S_)))

/-- One exponential of an inner product of the layer's vectors. -/
def expdot (a b : FVec Ideal S1x64 .f32) : FVec Ideal S_ .f32 :=
  Host.exp (Host.reduceAdd (mulf (shapeCast S64 a shapeCasts_S1x64_S64) (shapeCast S64 b shapeCasts_S1x64_S64)) (constant S_ .f32 0x00000000#32) reducesTo_S64_S_d0 h_S_)

/-- The factor of the second softmax. -/
def lam (a b c d : FVec Ideal S1x64 .f32) : FVec Ideal S_ .f32 :=
  addf (subf (expdot a b) (expdot c d)) (constant S_ .f32 0x3EB60549#32)

/-- The difference of the softmaxes. -/
def diff (p : FVec Ideal S8x2x8x4096x4608 .f32) (l : FVec Ideal S_ .f32) : FVec Ideal S8x8x4096x4608 .f32 :=
  subf (shapeCast _ (extractStridedSlice S8x1x8x4096x4608 ![0, 0, 0, 0, 0] p slices_S8x2x8x4096x4608_S8x1x8x4096x4608_0_0_0_0_0) shapeCasts_S8x1x8x4096x4608_S8x8x4096x4608)
    (mulf (broadcastInDim S8x8x4096x4608 ![] bcast_S_S8x8x4096x4608 l)
      (shapeCast _ (extractStridedSlice S8x1x8x4096x4608 ![0, 1, 0, 0, 0] p slices_S8x2x8x4096x4608_S8x1x8x4096x4608_0_1_0_0_0) shapeCasts_S8x1x8x4096x4608_S8x8x4096x4608))

/-- The values mixed. -/
def mixed (v : FVec Ideal S8x4608x8x128 .f32) (a : FVec Ideal S8x8x4096x4608 .f32) : FVec Ideal S8x4096x8x128 .f32 :=
  transpose S8x4096x8x128 [0, 3, 1, 2] (Host.dotGeneral dot_S8x4608x8x128_S8x8x4096x4608_S8x8x128x4096_1_3_3_2_02_01 none v a) transposes_S8x8x128x4096_S8x4096x8x128_0_3_1_2

/-- The normalised result. -/
def normed (o : FVec Ideal S8x4096x8x128 .f32) (g : FVec Ideal S1x128 .f32) : FVec Ideal S32768x1024 .bf16 :=
  truncf .bf16 (shapeCast S32768x1024 (mulf (mulf (mulf o (broadcastInDim S8x4096x8x128 ![0, 1, 2, 3] bcast_S8x4096x8x1_S8x4096x8x128_0_1_2_3
      (Host.rsqrt (addf (Host.divf (broadcastInDim S8x4096x8x1 ![0, 1, 2] bcast_S8x4096x8_S8x4096x8x1_0_1_2
          (Host.reduceAdd (mulf o o) (constant S_ .f32 0x00000000#32) reducesTo_S8x4096x8x128_S8x4096x8_d3 h_S_))
        (broadcastInDim S8x4096x8x1 ![] bcast_S_S8x4096x8x1 (constant S_ .f32 0x43000000#32)))
        (broadcastInDim S8x4096x8x1 ![] bcast_S_S8x4096x8x1 (constant S_ .f32 0x358637BD#32))))))
    (broadcastInDim S8x4096x8x128 ![0, 1, 2, 3] bcast_S1x1x1x128_S8x4096x8x128_0_1_2_3
      (broadcastInDim S1x1x1x128 ![3] bcast_S128_S1x1x1x128_3 (shapeCast S128 g shapeCasts_S1x128_S128))))
    (broadcastInDim S8x4096x8x128 ![] bcast_S_S8x4096x8x128 (constant S_ .f32 0x3F24FD5C#32))) shapeCasts_S8x4096x8x128_S32768x1024) bitsLt_bf16_f32

/-! ## Each stage at an index -/

theorem qs_at (q) (b : Fin 8) (i : Fin 4096) (h : Fin 8) (μ : Fin 2) (d : Fin 64) :
    qs q (ix5 b i h μ d) = q (ix2 ⟨4096 + (b.val * 4096 + i.val), by omega⟩ ⟨h.val * 128 + μ.val * 64 + d.val, by omega⟩) := by
  pointwise [qs]

theorem ks_at (k ck) (b : Fin 8) (i : Fin 4608) (h : Fin 8) (μ : Fin 2) (d : Fin 64) :
    ks k ck (ix5 b i h μ d)
      = if hi : i.val < 4096 then k (ix2 ⟨4096 + (b.val * 4096 + i.val), by omega⟩ ⟨h.val * 128 + μ.val * 64 + d.val, by omega⟩)
        else ck (ix5 b 0 ⟨i.val - 4096, by omega⟩ h ⟨μ.val * 64 + d.val, by omega⟩) := by
  pointwise [ks, qs]

theorem vs_at (v cv) (b : Fin 8) (i : Fin 4608) (h : Fin 8) (e : Fin 128) :
    vs v cv (ix4 b i h e)
      = if hi : i.val < 4096 then v (ix2 ⟨4096 + (b.val * 4096 + i.val), by omega⟩ ⟨h.val * 128 + e.val, by omega⟩)
        else cv (ix5 b 0 ⟨i.val - 4096, by omega⟩ h e) := by
  pointwise [vs]

theorem scores_at (q k) (b : Fin 8) (μ : Fin 2) (h : Fin 8) (i : Fin 4096) (j : Fin 4608) :
    scores q k (ix5 b μ h i j) = (∑ x, q (ix5 b i h μ x) * k (ix5 b j h μ x)) * Ideal.ofBits .f32 0x3E000000#32 := by
  pointwise [scores]

theorem ofBits_neg_inf : Ideal.ofBits .f32 0xFF800000#32 = ⊥ := by simp [Ideal.ofBits, Ideal.ieee]

theorem reduce_real (s : FVec Ideal S8x2x8x4096x4608 .f32) (hs : ∀ i, ∃ r : ℝ, s i = r) (j : S8x2x8x4096.Idx) :
    ∃ M : ℝ, Host.reduce FloatOps.maximumf s (constant S_ .f32 0xFF800000#32) reducesTo_S8x2x8x4096x4608_S8x2x8x4096_d4 h_S_ j = (M : EReal) := by
  rw [Host.reduce_eq_fold_single (FloatOps.maximumf (F := Ideal) (φ := .f32)) s _ _ (by decide) _ j]
  have h0 : (constant S_ .f32 0xFF800000#32 : FVec Ideal S_ .f32) (Shape.Idx.first h_S_) = ⊥ := ofBits_neg_inf
  rw [h0]
  exact fold_max_coe (Finset.univ : Finset (Fin 4608)) Finset.univ_nonempty _ fun _ _ => hs _

theorem max_real (R : FVec Ideal S8x2x8x4096 .f32) (j : S8x2x8x4096.Idx) {M : ℝ} (h : R j = (M : EReal)) :
    maximumf (broadcastInDim S8x2x8x4096 ![] bcast_S_S8x2x8x4096 (constant S_ .f32 0xFF800000#32)) R j = (M : EReal) := by
  show max (Ideal.ofBits .f32 0xFF800000#32) (R j) = _
  rw [ofBits_neg_inf, h]
  exact max_eq_right bot_le

/-- The row maxima of real scores are real. -/
theorem maxima_real (s) (hs : ∀ i, ∃ r : ℝ, s i = (r : EReal)) (j : S8x2x8x4096.Idx) : ∃ M : ℝ, maxima s j = (M : EReal) := by
  obtain ⟨M, h⟩ := reduce_real s hs j
  exact ⟨M, max_real _ j h⟩

theorem expos_at (s M) (b : Fin 8) (μ : Fin 2) (h : Fin 8) (i : Fin 4096) (j : Fin 4608) :
    expos s M (ix5 b μ h i j) = Ideal.exp (s (ix5 b μ h i j) - M (ix4 b μ h i)) := by
  pointwise [expos]

theorem softs_at (s) (b : Fin 8) (μ : Fin 2) (h : Fin 8) (i : Fin 4096) (j : Fin 4608) :
    softs s (ix5 b μ h i j) = Ideal.div (s (ix5 b μ h i j)) (∑ x, s (ix5 b μ h i x)) := by
  pointwise [softs]

theorem lam_at (a b c d) :
    lam a b c d ix0 = Ideal.exp (∑ x, a (ix2 0 x) * b (ix2 0 x)) - Ideal.exp (∑ x, c (ix2 0 x) * d (ix2 0 x))
      + Ideal.ofBits .f32 0x3EB60549#32 := by
  pointwise [lam, expdot]

theorem diff_at (p l) (b : Fin 8) (h : Fin 8) (i : Fin 4096) (j : Fin 4608) :
    diff p l (ix4 b h i j) = p (ix5 b 0 h i j) - l ix0 * p (ix5 b 1 h i j) := by
  pointwise [diff]

theorem mixed_at (v a) (b : Fin 8) (i : Fin 4096) (h : Fin 8) (e : Fin 128) :
    mixed v a (ix4 b i h e) = ∑ x, v (ix4 b x h e) * a (ix4 b h i x) := by
  pointwise [mixed]

theorem normed_at (o g) (r : Fin 32768) (e : Fin 1024) :
    normed o g (ix2 r e)
      = rms (fun x => o (ix4 ⟨r.val / 4096, by omega⟩ ⟨r.val % 4096, by omega⟩ ⟨e.val / 128, by omega⟩ x))
          (g (ix2 0 ⟨e.val % 128, by omega⟩)) ⟨e.val % 128, by omega⟩ := by
  pointwise [normed, rms]

end Cert.Proof.Ref

end
-- ==== Proof.Ref.lean ====
/- The reference's result at an index, where its arguments are real. -/
module

public import proofs.«01_k».proof.Proof.Stages

@[expose] public section

set_option maxRecDepth 16384

noncomputable section

namespace Cert.Proof.Ref

open Idealize.ShloMosaic Idealize.ShloMosaic.TcCoe Idealize.SL.Sem
open Cert.ReferenceIdeal Cert.ReferenceIdeal.Gen

/-! ## The whole -/

/-- The reference's result, by its stages. -/
def result (q k v : FVec Ideal S36864x1024 .f32) (ck cv : FVec Ideal S8x1x512x8x128 .f32) (a b c d : FVec Ideal S1x64 .f32)
    (g : FVec Ideal S1x128 .f32) : FVec Ideal S32768x1024 .bf16 :=
  normed (mixed (vs v cv) (diff (softs (expos (scores (qs q) (ks k ck)) (maxima (scores (qs q) (ks k ck))))) (lam a b c d))) g

theorem result_eq (m : (ℓ : Loc nD τ sig) → Buf (Elt Ideal) ℓ) (c : Dev nD) :
    Cert.ReferenceIdeal.Value.res_main_v63 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v63 result normed mixed vs diff softs expos maxima scores qs ks lam expdot qs
  congr 8

theorem ofBits_eighth : Ideal.ofBits .f32 0x3E000000#32 = ((8⁻¹ : ℝ) : EReal) := by
  simp [Ideal.ofBits, Ideal.ieee]
  rw [← EReal.coe_mul]
  norm_num

/-- The scores of real queries and keys are real, everywhere. -/
theorem scores_real (q k) (hq : ∀ i, ∃ r : ℝ, q i = (r : EReal)) (hk : ∀ i, ∃ r : ℝ, k i = (r : EReal)) (i) :
    ∃ r : ℝ, scores q k i = (r : EReal) := by
  choose q' hq using hq
  choose k' hk using hk
  obtain ⟨b, μ, h, n, j, rfl⟩ : ∃ (b : Fin 8) (μ : Fin 2) (h : Fin 8) (n : Fin 4096) (j : Fin 4608), i = ix5 b μ h n j :=
    ⟨_, _, _, _, _, eq_ix5 i⟩
  rw [scores_at, ofBits_eighth]
  simp only [hq, hk, ← EReal.coe_mul, coe_sum]
  exact ⟨_, rfl⟩

/-- The reference's result where its arguments are real: the rows `n * 512 + r` of batch `b`, head `h`. -/
theorem result_at (q k v : FVec Ideal S36864x1024 .f32) (ck cv : FVec Ideal S8x1x512x8x128 .f32) (a' b' c' d' : FVec Ideal S1x64 .f32)
    (g : FVec Ideal S1x128 .f32)
    (rq : ∀ i, ∃ r : ℝ, qs q i = (r : EReal)) (rk : ∀ i, ∃ r : ℝ, ks k ck i = (r : EReal))
    (b h : Fin 8) (n : Fin 8) (Q : Fin 512 → Fin 128 → ℝ) (K V : ℕ → Fin 128 → ℝ) (L : ℝ)
    (hQ : ∀ (r : Fin 512) (μ : Fin 2) (d : Fin 64), qs q (ix5 b ⟨n.val * 512 + r.val, by omega⟩ h μ d)
      = ((Q r ⟨μ.val * 64 + d.val, by omega⟩ : ℝ) : EReal))
    (hK : ∀ (j : Fin 4608) (μ : Fin 2) (d : Fin 64), ks k ck (ix5 b j h μ d) = ((K j ⟨μ.val * 64 + d.val, by omega⟩ : ℝ) : EReal))
    (hV : ∀ (j : Fin 4608) (e : Fin 128), vs v cv (ix4 b j h e) = ((V j e : ℝ) : EReal))
    (hL : lam a' b' c' d' ix0 = (L : EReal)) (r : Fin 512) (e : Fin 128) :
    result q k v ck cv a' b' c' d' g (ix2 ⟨b.val * 4096 + (n.val * 512 + r.val), by omega⟩ ⟨h.val * 128 + e.val, by omega⟩)
      = rms (attn Q K V L r) (g (ix2 0 e)) e := by
  have hs : ∀ (μ : Fin 2) (j : Fin 4608), scores (qs q) (ks k ck) (ix5 b μ h ⟨n.val * 512 + r.val, by omega⟩ j)
      = ((score Q K μ r j : ℝ) : EReal) := by
    intro μ j
    rw [scores_at, ofBits_eighth]
    simp only [hQ, hK, ← EReal.coe_mul, coe_sum]
    rfl
  have hp : ∀ (μ : Fin 2) (j : Fin 4608),
      softs (expos (scores (qs q) (ks k ck)) (maxima (scores (qs q) (ks k ck)))) (ix5 b μ h ⟨n.val * 512 + r.val, by omega⟩ j)
        = ((Real.exp (score Q K μ r j) / ∑ x ∈ Finset.range 4608, Real.exp (score Q K μ r x) : ℝ) : EReal) := by
    intro μ j
    obtain ⟨M, hM⟩ := maxima_real (scores (qs q) (ks k ck)) (scores_real _ _ rq rk) (ix4 b μ h ⟨n.val * 512 + r.val, by omega⟩)
    rw [softs_at]
    simp only [expos_at, hs, hM]
    exact softmax_coe (by norm_num) (score Q K μ r) M j _ rfl
  have ho : ∀ x : Fin 128, mixed (vs v cv) (diff (softs (expos (scores (qs q) (ks k ck)) (maxima (scores (qs q) (ks k ck))))) (lam a' b' c' d'))
      (ix4 b ⟨n.val * 512 + r.val, by omega⟩ h x) = attn Q K V L r x := by
    intro x
    rw [mixed_at]
    simp only [diff_at, hp, hL, hV, ← EReal.coe_mul, ← EReal.coe_sub, coe_sum]
    rw [attn, ← diff_mix, Finset.sum_range (n := 4608)
      (f := fun k => V k x * (Real.exp (score Q K 0 r k) / (∑ j ∈ Finset.range 4608, Real.exp (score Q K 0 r j))
        - L * (Real.exp (score Q K 1 r k) / ∑ j ∈ Finset.range 4608, Real.exp (score Q K 1 r j))))]
  unfold result
  rw [normed_at]
  have e1 : (⟨(b.val * 4096 + (n.val * 512 + r.val)) / 4096, by omega⟩ : Fin 8) = b := Fin.ext (by show _ / _ = b.val; omega)
  have e2 : (⟨(b.val * 4096 + (n.val * 512 + r.val)) % 4096, by omega⟩ : Fin 4096) = ⟨n.val * 512 + r.val, by omega⟩ :=
    Fin.ext (by show _ % _ = n.val * 512 + r.val; omega)
  have e3 : (⟨(h.val * 128 + e.val) / 128, by omega⟩ : Fin 8) = h := Fin.ext (by show _ / _ = h.val; omega)
  have e4 : (⟨(h.val * 128 + e.val) % 128, by omega⟩ : Fin 128) = e := Fin.ext (by show _ % _ = e.val; omega)
  rw [e4]
  simp only [e1, e2, e3]
  rw [funext ho]

end Cert.Proof.Ref

end
-- ==== Proof.Final.lean ====
/- The kernel's array after the run is the reference's, where the arguments are real. -/
module

public import proofs.«01_k».proof.Proof.Host
public import proofs.«01_k».proof.Proof.Ref
public import proofs.«01_k».proof.Proof.Gen.Pre_finite
public import proofs.«01_k».proof.Defs

@[expose] public section

set_option maxRecDepth 16384

noncomputable section

namespace Cert.Proof

open Idealize.ShloMosaic Idealize.ShloMosaic.TcCoe Idealize.SL.Sem
open Cert.KernelIdeal Cert.KernelIdeal.Gen

/-! ## What the precondition says -/

/-- A number whose absolute value is below infinity is real. -/
theorem real_of_lt (x : EReal) (h : Ideal.cmp .olt (max x (-x)) (Ideal.ofBits .f32 0x7F800000#32) = 1#1) : ∃ r : ℝ, x = (r : EReal) := by
  have h0 : Ideal.ofBits .f32 0x7F800000#32 = ⊤ := by simp [Ideal.ofBits, Ideal.ieee]
  rw [h0] at h
  induction x using EReal.rec with
  | bot => simp [Ideal.cmp] at h
  | coe r => exact ⟨r, rfl⟩
  | top => simp [Ideal.cmp] at h

theorem real_of_all {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    ∃ r : ℝ, x i = (r : EReal) :=
  real_of_lt (x i) (congrFun h i)

/-- The arguments the values depend on are real. -/
structure Reals (q k v : FVec Ideal S36864x1024 .f32) (ck cv : FVec Ideal S8x1x512x8x128 .f32) (a b c d : FVec Ideal S1x64 .f32) : Prop where
  q : ∀ i, ∃ r : ℝ, q i = (r : EReal)
  k : ∀ i, ∃ r : ℝ, k i = (r : EReal)
  v : ∀ i, ∃ r : ℝ, v i = (r : EReal)
  ck : ∀ i, ∃ r : ℝ, ck i = (r : EReal)
  cv : ∀ i, ∃ r : ℝ, cv i = (r : EReal)
  a : ∀ i, ∃ r : ℝ, a i = (r : EReal)
  b : ∀ i, ∃ r : ℝ, b i = (r : EReal)
  c : ∀ i, ∃ r : ℝ, c i = (r : EReal)
  d : ∀ i, ∃ r : ℝ, d i = (r : EReal)

variable (m : (ℓ : Loc nD τ sig) → Buf (Elt Ideal) ℓ)

/-- The arguments of device `c` are real. -/
abbrev RealsAt (c : Dev nD) : Prop :=
  Reals (qIn m c) (kIn m c) (vIn m c) (kCache m c) (vCache m c) (lq1 m c) (lk1 m c) (lq2 m c) (lk2 m c)

theorem reals_of_pre (h : Cert.Pre_KernelIdeal_finite (hPre_finite := Cert.Pre_finite.Gen.facts) m) (c : Dev nD) : RealsAt m c := by
  obtain ⟨h0, h1, h2, h3, h4, h5, h6, h7, h8⟩ := h c
  exact ⟨real_of_all _ _ h0, real_of_all _ _ h1, real_of_all _ _ h2, real_of_all _ _ h3, real_of_all _ _ h4, real_of_all _ _ h5,
    real_of_all _ _ h6, real_of_all _ _ h7, real_of_all _ _ h8⟩

/-! ## The real queries, keys, values and factor of a grid point -/

theorem toReal_of {x : EReal} (h : ∃ r : ℝ, x = (r : EReal)) : x = ((x.toReal : ℝ) : EReal) := by
  obtain ⟨r, rfl⟩ := h
  rw [EReal.toReal_coe]

theorem kArr_real (c : Dev nD) (hr : RealsAt m c) (b : Fin 8) (h : Fin 1024) (k : Fin 4608) :
    ∃ r : ℝ, (kArr m c (ix3 b h k) : EReal) = (r : EReal) := by
  rw [kArr_at]
  split
  · exact hr.k _
  · exact hr.ck _

theorem vArr_real (c : Dev nD) (hr : RealsAt m c) (b : Fin 8) (k : Fin 4608) (h : Fin 1024) :
    ∃ r : ℝ, (vArr m c (ix3 b k h) : EReal) = (r : EReal) := by
  rw [vArr_at]
  split
  · exact hr.v _
  · exact hr.cv _

/-- The queries of batch `b`, head `h`, rows `n * 512 …`. -/
def Qd (c : Dev nD) (b h n : Fin 8) (r : Fin 512) (d : Fin 128) : ℝ :=
  EReal.toReal (qIn m c (ix2 ⟨(8 + b.val * 8 + n.val) * 512 + r.val, by omega⟩ ⟨h.val * 128 + d.val, by omega⟩))

/-- The keys of batch `b`, head `h`. -/
def Kd (c : Dev nD) (b h : Fin 8) (k : ℕ) (d : Fin 128) : ℝ :=
  if hk : k < 4608 then EReal.toReal (kArr m c (ix3 b ⟨h.val * 128 + d.val, by omega⟩ ⟨k, hk⟩)) else 0

/-- The values of batch `b`, head `h`. -/
def Vd (c : Dev nD) (b h : Fin 8) (k : ℕ) (e : Fin 128) : ℝ :=
  if hk : k < 4608 then EReal.toReal (vArr m c (ix3 b ⟨k, hk⟩ ⟨h.val * 128 + e.val, by omega⟩)) else 0

/-- The factor of the second softmax. -/
def lamE (c : Dev nD) : EReal :=
  Ideal.exp (∑ x : Fin 64, lq1 m c (ix2 0 x) * lk1 m c (ix2 0 x)) - Ideal.exp (∑ x : Fin 64, lq2 m c (ix2 0 x) * lk2 m c (ix2 0 x))
    + Ideal.ofBits .f32 0x3EB60549#32

theorem ofBits_lam : ∃ r : ℝ, Ideal.ofBits .f32 0x3EB60549#32 = (r : EReal) := by
  simp only [Ideal.ofBits, Ideal.ieee]
  norm_num
  exact ⟨_, (EReal.coe_mul _ _).symm⟩

theorem lam_real (c : Dev nD) (hr : RealsAt m c) : ∃ r : ℝ, lamE m c = (r : EReal) := by
  obtain ⟨z, hz⟩ := ofBits_lam
  choose a ha using hr.a
  choose b hb using hr.b
  choose a' ha' using hr.c
  choose b' hb' using hr.d
  unfold lamE
  rw [hz]
  simp only [ha, hb, ha', hb', ← EReal.coe_mul, coe_sum, Ideal.exp_coe, ← EReal.coe_sub, ← EReal.coe_add]
  exact ⟨_, rfl⟩

def Ld (c : Dev nD) : ℝ := (lamE m c).toReal

theorem kd (c : Dev nD) (hr : RealsAt m c) (b h : Fin 8) (k : Fin 4608) (d : Fin 128) :
    (kArr m c (ix3 b ⟨h.val * 128 + d.val, by omega⟩ k) : EReal) = ((Kd m c b h k d : ℝ) : EReal) := by
  rw [Kd, dif_pos k.isLt]
  exact toReal_of (kArr_real m c hr b _ k)

theorem vd (c : Dev nD) (hr : RealsAt m c) (b h : Fin 8) (k : Fin 4608) (e : Fin 128) :
    (vArr m c (ix3 b k ⟨h.val * 128 + e.val, by omega⟩) : EReal) = ((Vd m c b h k e : ℝ) : EReal) := by
  rw [Vd, dif_pos k.isLt]
  exact toReal_of (vArr_real m c hr b k _)

/-! ## The kernel's side -/

abbrev hd (n : ℕ) : Fin 8 := ⟨n / 8 % 8, by omega⟩
abbrev nd (n : ℕ) : Fin 8 := ⟨n % 8, by omega⟩

theorem realAt (c : Dev nD) (hr : RealsAt m c) (t : Fin cfg0.N) :
    RealAt m c t (Qd m c (bt t.val (lt512 t)) (hd t.val) (nd t.val)) (Kd m c (bt t.val (lt512 t)) (hd t.val))
      (Vd m c (bt t.val (lt512 t)) (hd t.val)) (Ld m c) where
  q r d := by
    rw [qArr_eq]
    exact toReal_of (hr.q _)
  k d k := kd m c hr _ (hd t.val) k d
  v k e := vd m c hr _ (hd t.val) k e
  l := by
    have h1 : (∑ x : Fin 128, lArr m c (ix2 0 x) * lArr m c (ix2 1 x) : EReal) = ∑ x : Fin 64, rows m c (ix2 0 x) * rows m c (ix2 1 x) :=
      lane_sum m c 0 1
    have h2 : (∑ x : Fin 128, lArr m c (ix2 2 x) * lArr m c (ix2 3 x) : EReal) = ∑ x : Fin 64, rows m c (ix2 2 x) * rows m c (ix2 3 x) :=
      lane_sum m c 2 3
    rw [h1, h2]
    simp only [fun x => (rows_at m c x).1, fun x => (rows_at m c x).2.1, fun x => (rows_at m c x).2.2.1, fun x => (rows_at m c x).2.2.2]
    exact toReal_of (lam_real m c hr)

/-! ## The reference's side, at the kernel's arguments -/

theorem ks_eq (c : Dev nD) (b h : Fin 8) (j : Fin 4608) (μ : Fin 2) (d : Fin 64) :
    (Ref.ks (kIn m c) (kCache m c) (ix5 b j h μ d) : EReal)
      = kArr m c (ix3 b ⟨h.val * 128 + (μ.val * 64 + d.val), by omega⟩ j) := by
  rw [Ref.ks_at, kArr_at]
  have e1 : h.val * 128 + μ.val * 64 + d.val = h.val * 128 + (μ.val * 64 + d.val) := by omega
  have e2 : (h.val * 128 + (μ.val * 64 + d.val)) / 128 = h.val := by omega
  have e3 : (h.val * 128 + (μ.val * 64 + d.val)) % 128 = μ.val * 64 + d.val := by omega
  simp only [e1, e2, e3]

theorem vs_eq (c : Dev nD) (b h : Fin 8) (j : Fin 4608) (e : Fin 128) :
    (Ref.vs (vIn m c) (vCache m c) (ix4 b j h e) : EReal) = vArr m c (ix3 b j ⟨h.val * 128 + e.val, by omega⟩) := by
  rw [Ref.vs_at, vArr_at]
  have e2 : (h.val * 128 + e.val) / 128 = h.val := by omega
  have e3 : (h.val * 128 + e.val) % 128 = e.val := by omega
  simp only [e2, e3]

theorem qs_eq (c : Dev nD) (b h n : Fin 8) (r : Fin 512) (μ : Fin 2) (d : Fin 64) :
    (Ref.qs (qIn m c) (ix5 b ⟨n.val * 512 + r.val, by omega⟩ h μ d) : EReal)
      = qIn m c (ix2 ⟨(8 + b.val * 8 + n.val) * 512 + r.val, by omega⟩ ⟨h.val * 128 + (μ.val * 64 + d.val), by omega⟩) := by
  rw [Ref.qs_at]
  have e1 : h.val * 128 + μ.val * 64 + d.val = h.val * 128 + (μ.val * 64 + d.val) := by omega
  have e2 : 4096 + (b.val * 4096 + (n.val * 512 + r.val)) = (8 + b.val * 8 + n.val) * 512 + r.val := by omega
  simp only [e1, e2]

/-- The reference's result of device `c`'s arguments. -/
abbrev refOut (c : Dev nD) : FVec Ideal S32768x1024 .bf16 :=
  Ref.result (qIn m c) (kIn m c) (vIn m c) (kCache m c) (vCache m c) (lq1 m c) (lk1 m c) (lq2 m c) (lk2 m c) (gIn m c)

theorem refOut_at (c : Dev nD) (hr : RealsAt m c) (b h n : Fin 8) (r : Fin 512) (e : Fin 128) :
    refOut m c (ix2 ⟨b.val * 4096 + (n.val * 512 + r.val), by omega⟩ ⟨h.val * 128 + e.val, by omega⟩)
      = rms (attn (Qd m c b h n) (Kd m c b h) (Vd m c b h) (Ld m c) r) (gIn m c (ix2 0 e)) e := by
  refine Ref.result_at _ _ _ _ _ _ _ _ _ _ ?_ ?_ b h n _ _ _ _ ?_ ?_ ?_ ?_ r e
  · intro i
    obtain ⟨b, n, h, μ, d, rfl⟩ : ∃ (b : Fin 8) (n : Fin 4096) (h : Fin 8) (μ : Fin 2) (d : Fin 64), i = ix5 b n h μ d :=
      ⟨_, _, _, _, _, eq_ix5 i⟩
    rw [Ref.qs_at]
    exact hr.q _
  · intro i
    obtain ⟨b, n, h, μ, d, rfl⟩ : ∃ (b : Fin 8) (n : Fin 4608) (h : Fin 8) (μ : Fin 2) (d : Fin 64), i = ix5 b n h μ d :=
      ⟨_, _, _, _, _, eq_ix5 i⟩
    exact ⟨_, (ks_eq m c b h n μ d).trans (toReal_of (kArr_real m c hr _ _ _))⟩
  · exact fun r μ d => (qs_eq m c b h n r μ d).trans (toReal_of (hr.q _))
  · exact fun j μ d => (ks_eq m c b h j μ d).trans (kd m c hr b h j ⟨μ.val * 64 + d.val, by omega⟩)
  · exact fun j e => (vs_eq m c b h j e).trans (vd m c hr b h j e)
  · rw [Ref.lam_at]
    exact toReal_of (lam_real m c hr)

/-- What the body leaves in the output's buffer at a point is the reference's block. -/
theorem point (c : Dev nD) (hr : RealsAt m c) (t : Fin cfg0.N) (r : Fin 512) (e : Fin 128) :
    (outsAt0 m c t.val t.isLt).1 (ix2 r e)
      = refOut m c (ix2 ⟨(t.val / 64 * 8 + t.val % 8) * 512 + r.val, by have := lt512 t; omega⟩ ⟨t.val / 8 % 8 * 128 + e.val, by omega⟩) := by
  rw [(realAt m c hr t).out r e, gArr_at, ← refOut_at m c hr]
  refine congrArg (refOut m c) ?_
  have e1 : t.val / 64 * 4096 + (t.val % 8 * 512 + r.val) = (t.val / 64 * 8 + t.val % 8) * 512 + r.val := by omega
  simp only [e1]

set_option maxHeartbeats 4000000 in
/-- The blocks written back cover the array. -/
theorem covers : (cfg0.win 5).Covers := by decide +kernel

set_option maxHeartbeats 4000000 in
theorem final (c : Dev nD) (hr : RealsAt m c) : (dats m 0 c).arrAt 5 cfg0.N = refOut m c := by
  refine (dats m 0 c).arrAt_eq_of_covers 5 _ covers fun t _ y => ?_
  blk_simp
  rw [after0_5]
  obtain ⟨r, e, rfl⟩ : ∃ (r : Fin 512) (e : Fin 128), y = ix2 r e := ⟨_, _, eq_ix2 y⟩
  refine (point m c hr t r e).trans ?_
  refine congrArg (refOut m c) ?_
  funext a
  fin_cases a <;> (apply Fin.ext; blk_simp [idx t] <;> try omega)
  all_goals rfl

end Cert.Proof

end
-- ==== Proof.MoeLaunch.lean ====
/- The set-up of the experts' call for its proof: what @main's operations before the call leave, the two prefetched tables, the
   blocks the windows read, and the frame's claim from any run of the call. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call is entered: after the three reshapes before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer none of the reshapes writes is found as launched. -/
theorem V_of (c : Dev nD) (b : Ref sig .tc) (h : b ≠ main_v0 ∧ b ≠ main_v1 ∧ b ≠ main_v2) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h.1, StableHlo.devRef_ne_of_ne h.2.1, StableHlo.devRef_ne_of_ne h.2.2⟩))

/-! ## The prefetched tables -/

/-- Their contents when the call is entered (on the one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every block the first table names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tabE : Memref sig .tc .smem S320 .i32 := Memref.whole main_arg1
abbrev htabE : tabE.IsWhole := Memref.isWhole_whole _
abbrev tabN : Memref sig .tc .smem S1 .i32 := Memref.whole main_arg2
abbrev htabN : tabN.IsWhole := Memref.isWhole_whole _

/-- A table's contents, and the half of it the body holds. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

theorem PhiT_eq (c : Dev nD) : (Pipeline.ΦT pre0 (tbl m) c : sProp 𝕄) = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The seven arguments end as they were launched. -/
abbrev Kept (mem : (ℓ : Loc nD τ sig) → Buf (Elt F) ℓ) : Prop := ∀ c : Dev nD,
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)

/-- What the run of the call leaves in the argument arrays: nothing. -/
theorem kept_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r) (h : Pipeline.FramePost (Pipeline.pin pcfgs fun _ => adm m hO) dats 0 (V m) r) :
    Kept m r.2.mem := fun c =>
  ⟨((h c).2 main_arg0 (by decide : main_arg0 ∈ Pipeline.restRefs sig spec0)).trans (V_of m c main_arg0 ⟨by decide, by decide, by decide⟩),
    ((h c).2 main_arg1 (by decide : main_arg1 ∈ Pipeline.restRefs sig spec0)).trans (V_of m c main_arg1 ⟨by decide, by decide, by decide⟩),
    ((h c).2 main_arg2 (by decide : main_arg2 ∈ Pipeline.restRefs sig spec0)).trans (V_of m c main_arg2 ⟨by decide, by decide, by decide⟩),
    ((h c).1 1).trans (((dats 0 c).arrAt_in 1 rfl _).trans ((hA c 1).trans (V_of m c main_arg3 ⟨by decide, by decide, by decide⟩))),
    ((h c).2 main_arg4 (by decide : main_arg4 ∈ Pipeline.restRefs sig spec0)).trans (V_of m c main_arg4 ⟨by decide, by decide, by decide⟩),
    ((h c).1 3).trans (((dats 0 c).arrAt_in 3 rfl _).trans ((hA c 3).trans (V_of m c main_arg5 ⟨by decide, by decide, by decide⟩))),
    ((h c).2 main_arg6 (by decide : main_arg6 ∈ Pipeline.restRefs sig spec0)).trans (V_of m c main_arg6 ⟨by decide, by decide, by decide⟩)⟩

/-- The staging buffers at a point, as the call passes them. -/
abbrev ms_0 (hO : Ok m) (t : Fin (cfgM m hO).N) : Memref sig .tc .vmem S4096x128 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1x1024x2048 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1x1x2048 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x1x1024x1024 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x1x1x1024 .f32 := spec0_4.stage ((cfgM m hO).slots t 4)
abbrev hs_4 (hO : Ok m) (t : Fin (cfgM m hO).N) : (ms_4 m hO t).IsWhole := hstage0_4 (((cfgM m hO).slots t 4).cast nbuf0_4)
abbrev ms_5 (hO : Ok m) (t : Fin (cfgM m hO).N) : Memref sig .tc .vmem S4096x128 .f32 := spec0_5.stage ((cfgM m hO).slots t 5)
abbrev hs_5 (hO : Ok m) (t : Fin (cfgM m hO).N) : (ms_5 m hO t).IsWhole := hstage0_5 (((cfgM m hO).slots t 5).cast nbuf0_5)

/-- The two scratch buffers: the weights of the block's expert, in the narrow format. -/
abbrev scI : Memref sig .tc .vmem S1024x2048 .bf16 := Memref.whole cc0_scratch0
abbrev scO : Memref sig .tc .vmem S1024x1024 .bf16 := Memref.whole cc0_scratch1

theorem PhiA_eq (c : Dev nD) :
    (Pipeline.ΦA spec0 c : sProp 𝕄)
      = iprop(iprop((∃ d, owns (c : Thread nD τ) scI fullShare d) ∗ (∃ d, owns (c : Thread nD τ) scO fullShare d)) ∗ (∃ r, prngReg c r)) := by
  unfold Pipeline.ΦA; rw [scopedRest0_eq]; simp only [scI, scO, owns_whole]; try rfl

/-- The body at a point, as the call runs it. -/
abbrev bodyAt (hO : Ok m) (t : Fin (cfgM m hO).N) : Prog (TpuEff nD τ sig (Elt F) Λ₀ .tc) PUnit :=
  cc0_moe_experts (grid0.coords t) tabE htabE tabN htabN (ms_0 m hO t) (hs_0 m hO t) (ms_1 m hO t) (hs_1 m hO t) (ms_2 m hO t) (hs_2 m hO t)
    (ms_3 m hO t) (hs_3 m hO t) (ms_4 m hO t) (hs_4 m hO t) (ms_5 m hO t) (hs_5 m hO t) scI (Memref.isWhole_whole _) scO (Memref.isWhole_whole _)

/-- The result is written back at every point. -/
theorem flush_5 (hO : Ok m) : ∀ t : Fin (cfgM m hO).N, ((cfgM m hO).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

end Cert.Moe

end
-- ==== Proof.MoeBody.lean ====
/- One block of the experts' call, run once over any float values: what its buffers hold afterwards, whichever of the two
   conditions of the body hold. -/
module

public import proofs.«01_k».proof.Proof.MoeLaunch
public import Idealize.ShloMosaic.Lib.VecWindow
public import Idealize.ShloMosaic.Lib.Pipeline.Value

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## What a block computes -/

/-- The rows a strided load of the input block reads. -/
abbrev slab (x0 : Vec F S4096x128 .f32) (r : LoadRect S4096x128) : r.shape.Idx → Elt F .f32 := fun y => x0 (r.idx y)

/-- The gate half and the linear half of the first product, clipped, and the second product: a block's 512 rows of 1024. -/
def gate (x0 : Vec F S4096x128 .f32) (w1 : Vec F S1024x2048 .bf16) (x2 : Vec F S1x1x1x2048 .f32) : FVec F S512x1024 .f32 :=
  k0_pay7 (slab x0 (⟨![0, 0], S512x128.size, ![8, 1], inb_S4096x128_S512x128_0_0_s_8_1⟩ : LoadRect S4096x128)) (slab x0 (⟨![1, 0], S512x128.size, ![8, 1], inb_S4096x128_S512x128_1_0_s_8_1⟩ : LoadRect S4096x128)) (slab x0 (⟨![2, 0], S512x128.size, ![8, 1], inb_S4096x128_S512x128_2_0_s_8_1⟩ : LoadRect S4096x128)) (slab x0 (⟨![3, 0], S512x128.size, ![8, 1], inb_S4096x128_S512x128_3_0_s_8_1⟩ : LoadRect S4096x128)) (slab x0 (⟨![4, 0], S512x128.size, ![8, 1], inb_S4096x128_S512x128_4_0_s_8_1⟩ : LoadRect S4096x128)) (slab x0 (⟨![5, 0], S512x128.size, ![8, 1], inb_S4096x128_S512x128_5_0_s_8_1⟩ : LoadRect S4096x128)) (slab x0 (⟨![6, 0], S512x128.size, ![8, 1], inb_S4096x128_S512x128_6_0_s_8_1⟩ : LoadRect S4096x128)) (slab x0 (⟨![7, 0], S512x128.size, ![8, 1], inb_S4096x128_S512x128_7_0_s_8_1⟩ : LoadRect S4096x128)) w1 x2
def lin (x0 : Vec F S4096x128 .f32) (w1 : Vec F S1024x2048 .bf16) (x2 : Vec F S1x1x1x2048 .f32) : FVec F S512x1024 .f32 :=
  k0_pay8 (slab x0 (⟨![0, 0], S512x128.size, ![8, 1], inb_S4096x128_S512x128_0_0_s_8_1⟩ : LoadRect S4096x128)) (slab x0 (⟨![1, 0], S512x128.size, ![8, 1], inb_S4096x128_S512x128_1_0_s_8_1⟩ : LoadRect S4096x128)) (slab x0 (⟨![2, 0], S512x128.size, ![8, 1], inb_S4096x128_S512x128_2_0_s_8_1⟩ : LoadRect S4096x128)) (slab x0 (⟨![3, 0], S512x128.size, ![8, 1], inb_S4096x128_S512x128_3_0_s_8_1⟩ : LoadRect S4096x128)) (slab x0 (⟨![4, 0], S512x128.size, ![8, 1], inb_S4096x128_S512x128_4_0_s_8_1⟩ : LoadRect S4096x128)) (slab x0 (⟨![5, 0], S512x128.size, ![8, 1], inb_S4096x128_S512x128_5_0_s_8_1⟩ : LoadRect S4096x128)) (slab x0 (⟨![6, 0], S512x128.size, ![8, 1], inb_S4096x128_S512x128_6_0_s_8_1⟩ : LoadRect S4096x128)) (slab x0 (⟨![7, 0], S512x128.size, ![8, 1], inb_S4096x128_S512x128_7_0_s_8_1⟩ : LoadRect S4096x128)) w1 x2
def rowsOut (x0 : Vec F S4096x128 .f32) (w1 : Vec F S1024x2048 .bf16) (x2 : Vec F S1x1x1x2048 .f32) (w2 : Vec F S1024x1024 .bf16) (x4 : Vec F S1x1x1x1024 .f32) :
    FVec F S512x1024 .f32 := k0_pay10 (gate x0 w1 x2) (lin x0 w1 x2) k0_pay9 w2 x4

/-- Row `8 r + k` of the block as stored holds columns `128 k …` of row `r`. -/
def tileIdx (j : S4096x128.Idx) : S512x1024.Idx := fun d => match d with
  | ⟨0, _⟩ => (⟨(j 0).val / 8, by have := show (j 0).val < 4096 from (j 0).isLt; omega⟩ : Fin 512)
  | ⟨1, _⟩ => (⟨128 * ((j 0).val % 8) + (j 1).val, by have := show (j 1).val < 128 from (j 1).isLt; omega⟩ : Fin 1024)
def tiles (y : FVec F S512x1024 .f32) : Vec F S4096x128 .f32 := fun j => y (tileIdx j)

theorem slice_tile (y : FVec F S512x1024 .f32) (k : ℕ) (off : Fin 2 → ℕ) (h : S512x1024.Slices off S512x128) (h0 : off 0 = 0) (h1 : off 1 = 128 * k) (hk : k < 8)
    (r : Rect S4096x128) (hs : r.size = S512x128.size) (r0 : r.off 0 = k) (r1 : r.off 1 = 0) (t0 : r.stride 0 = 8) (t1 : r.stride 1 = 1)
    (x : S512x128.Idx) (j : S4096x128.Idx) (hj : ∀ a, (j a).val = r.off a + r.stride a * (x a).val) :
    extractStridedSlice S512x128 off y h x = tiles y j := by
  have e0 := hj 0
  have e1 := hj 1
  rw [r0, t0] at e0
  rw [r1, t1] at e1
  have b1 : (x 1).val < 128 := (x 1).isLt
  refine extractStridedSlice_apply off y h x _ fun a => ?_
  match a with
  | ⟨0, _⟩ => show (j 0).val / 8 = off 0 + (x 0).val; omega
  | ⟨1, _⟩ => show 128 * ((j 0).val % 8) + (j 1).val = off 1 + (x 1).val; omega

theorem mem_tile (y : S4096x128.Idx) (k : ℕ) (r : Rect S4096x128) (ho : r.off = ![k, 0]) (hs : r.size = S512x128.size) (ht : r.stride = ![8, 1]) (hk : (y 0).val % 8 = k) : y ∈ r.set :=
  r.mem_set.mpr fun a => by
    have b0 : (y 0).val < 4096 := (y 0).isLt
    have b1 : (y 1).val < 128 := (y 1).isLt
    rw [ho, hs, ht]
    match a with
    | ⟨0, _⟩ => exact ⟨(y 0).val / 8, by show _ < 512; omega, by show (y 0).val = k + 8 * _; omega⟩
    | ⟨1, _⟩ => exact ⟨(y 1).val, b1, by show (y 1).val = 0 + 1 * _; omega⟩

/-- A place of the block is in the rows stored at its first coordinate's remainder by 8. -/
theorem mod8 (y : S4096x128.Idx) : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by
  have : (y 0).val % 8 < 8 := Nat.mod_lt _ (by decide)
  revert this
  generalize (y 0).val % 8 = n
  intro h; omega

theorem piece_0 (y : FVec F S512x1024 .f32) (x : S512x128.Idx) : extractStridedSlice S512x128 ![0, 0] y slices_S512x1024_o0_0_S512x128 x = tiles y ((⟨(⟨![0, 0], S512x128.size, ![8, 1], inb_S4096x128_S512x128_0_0_s_8_1⟩ : LoadRect S4096x128), spos_8_1⟩ : Rect S4096x128).emb x) :=
  slice_tile y 0 _ _ rfl rfl (by decide) (⟨(⟨![0, 0], S512x128.size, ![8, 1], inb_S4096x128_S512x128_0_0_s_8_1⟩ : LoadRect S4096x128), spos_8_1⟩ : Rect S4096x128) rfl rfl rfl rfl rfl x _ fun _ => rfl
theorem mem_0 (y : S4096x128.Idx) (h : (y 0).val % 8 = 0) : y ∈ (⟨(⟨![0, 0], S512x128.size, ![8, 1], inb_S4096x128_S512x128_0_0_s_8_1⟩ : LoadRect S4096x128), spos_8_1⟩ : Rect S4096x128).set := mem_tile y 0 _ rfl rfl rfl h
theorem piece_1 (y : FVec F S512x1024 .f32) (x : S512x128.Idx) : extractStridedSlice S512x128 ![0, 128] y slices_S512x1024_o0_128_S512x128 x = tiles y ((⟨(⟨![1, 0], S512x128.size, ![8, 1], inb_S4096x128_S512x128_1_0_s_8_1⟩ : LoadRect S4096x128), spos_8_1⟩ : Rect S4096x128).emb x) :=
  slice_tile y 1 _ _ rfl rfl (by decide) (⟨(⟨![1, 0], S512x128.size, ![8, 1], inb_S4096x128_S512x128_1_0_s_8_1⟩ : LoadRect S4096x128), spos_8_1⟩ : Rect S4096x128) rfl rfl rfl rfl rfl x _ fun _ => rfl
theorem mem_1 (y : S4096x128.Idx) (h : (y 0).val % 8 = 1) : y ∈ (⟨(⟨![1, 0], S512x128.size, ![8, 1], inb_S4096x128_S512x128_1_0_s_8_1⟩ : LoadRect S4096x128), spos_8_1⟩ : Rect S4096x128).set := mem_tile y 1 _ rfl rfl rfl h
theorem piece_2 (y : FVec F S512x1024 .f32) (x : S512x128.Idx) : extractStridedSlice S512x128 ![0, 256] y slices_S512x1024_o0_256_S512x128 x = tiles y ((⟨(⟨![2, 0], S512x128.size, ![8, 1], inb_S4096x128_S512x128_2_0_s_8_1⟩ : LoadRect S4096x128), spos_8_1⟩ : Rect S4096x128).emb x) :=
  slice_tile y 2 _ _ rfl rfl (by decide) (⟨(⟨![2, 0], S512x128.size, ![8, 1], inb_S4096x128_S512x128_2_0_s_8_1⟩ : LoadRect S4096x128), spos_8_1⟩ : Rect S4096x128) rfl rfl rfl rfl rfl x _ fun _ => rfl
theorem mem_2 (y : S4096x128.Idx) (h : (y 0).val % 8 = 2) : y ∈ (⟨(⟨![2, 0], S512x128.size, ![8, 1], inb_S4096x128_S512x128_2_0_s_8_1⟩ : LoadRect S4096x128), spos_8_1⟩ : Rect S4096x128).set := mem_tile y 2 _ rfl rfl rfl h
theorem piece_3 (y : FVec F S512x1024 .f32) (x : S512x128.Idx) : extractStridedSlice S512x128 ![0, 384] y slices_S512x1024_o0_384_S512x128 x = tiles y ((⟨(⟨![3, 0], S512x128.size, ![8, 1], inb_S4096x128_S512x128_3_0_s_8_1⟩ : LoadRect S4096x128), spos_8_1⟩ : Rect S4096x128).emb x) :=
  slice_tile y 3 _ _ rfl rfl (by decide) (⟨(⟨![3, 0], S512x128.size, ![8, 1], inb_S4096x128_S512x128_3_0_s_8_1⟩ : LoadRect S4096x128), spos_8_1⟩ : Rect S4096x128) rfl rfl rfl rfl rfl x _ fun _ => rfl
theorem mem_3 (y : S4096x128.Idx) (h : (y 0).val % 8 = 3) : y ∈ (⟨(⟨![3, 0], S512x128.size, ![8, 1], inb_S4096x128_S512x128_3_0_s_8_1⟩ : LoadRect S4096x128), spos_8_1⟩ : Rect S4096x128).set := mem_tile y 3 _ rfl rfl rfl h
theorem piece_4 (y : FVec F S512x1024 .f32) (x : S512x128.Idx) : extractStridedSlice S512x128 ![0, 512] y slices_S512x1024_o0_512_S512x128 x = tiles y ((⟨(⟨![4, 0], S512x128.size, ![8, 1], inb_S4096x128_S512x128_4_0_s_8_1⟩ : LoadRect S4096x128), spos_8_1⟩ : Rect S4096x128).emb x) :=
  slice_tile y 4 _ _ rfl rfl (by decide) (⟨(⟨![4, 0], S512x128.size, ![8, 1], inb_S4096x128_S512x128_4_0_s_8_1⟩ : LoadRect S4096x128), spos_8_1⟩ : Rect S4096x128) rfl rfl rfl rfl rfl x _ fun _ => rfl
theorem mem_4 (y : S4096x128.Idx) (h : (y 0).val % 8 = 4) : y ∈ (⟨(⟨![4, 0], S512x128.size, ![8, 1], inb_S4096x128_S512x128_4_0_s_8_1⟩ : LoadRect S4096x128), spos_8_1⟩ : Rect S4096x128).set := mem_tile y 4 _ rfl rfl rfl h
theorem piece_5 (y : FVec F S512x1024 .f32) (x : S512x128.Idx) : extractStridedSlice S512x128 ![0, 640] y slices_S512x1024_o0_640_S512x128 x = tiles y ((⟨(⟨![5, 0], S512x128.size, ![8, 1], inb_S4096x128_S512x128_5_0_s_8_1⟩ : LoadRect S4096x128), spos_8_1⟩ : Rect S4096x128).emb x) :=
  slice_tile y 5 _ _ rfl rfl (by decide) (⟨(⟨![5, 0], S512x128.size, ![8, 1], inb_S4096x128_S512x128_5_0_s_8_1⟩ : LoadRect S4096x128), spos_8_1⟩ : Rect S4096x128) rfl rfl rfl rfl rfl x _ fun _ => rfl
theorem mem_5 (y : S4096x128.Idx) (h : (y 0).val % 8 = 5) : y ∈ (⟨(⟨![5, 0], S512x128.size, ![8, 1], inb_S4096x128_S512x128_5_0_s_8_1⟩ : LoadRect S4096x128), spos_8_1⟩ : Rect S4096x128).set := mem_tile y 5 _ rfl rfl rfl h
theorem piece_6 (y : FVec F S512x1024 .f32) (x : S512x128.Idx) : extractStridedSlice S512x128 ![0, 768] y slices_S512x1024_o0_768_S512x128 x = tiles y ((⟨(⟨![6, 0], S512x128.size, ![8, 1], inb_S4096x128_S512x128_6_0_s_8_1⟩ : LoadRect S4096x128), spos_8_1⟩ : Rect S4096x128).emb x) :=
  slice_tile y 6 _ _ rfl rfl (by decide) (⟨(⟨![6, 0], S512x128.size, ![8, 1], inb_S4096x128_S512x128_6_0_s_8_1⟩ : LoadRect S4096x128), spos_8_1⟩ : Rect S4096x128) rfl rfl rfl rfl rfl x _ fun _ => rfl
theorem mem_6 (y : S4096x128.Idx) (h : (y 0).val % 8 = 6) : y ∈ (⟨(⟨![6, 0], S512x128.size, ![8, 1], inb_S4096x128_S512x128_6_0_s_8_1⟩ : LoadRect S4096x128), spos_8_1⟩ : Rect S4096x128).set := mem_tile y 6 _ rfl rfl rfl h
theorem piece_7 (y : FVec F S512x1024 .f32) (x : S512x128.Idx) : extractStridedSlice S512x128 ![0, 896] y slices_S512x1024_o0_896_S512x128 x = tiles y ((⟨(⟨![7, 0], S512x128.size, ![8, 1], inb_S4096x128_S512x128_7_0_s_8_1⟩ : LoadRect S4096x128), spos_8_1⟩ : Rect S4096x128).emb x) :=
  slice_tile y 7 _ _ rfl rfl (by decide) (⟨(⟨![7, 0], S512x128.size, ![8, 1], inb_S4096x128_S512x128_7_0_s_8_1⟩ : LoadRect S4096x128), spos_8_1⟩ : Rect S4096x128) rfl rfl rfl rfl rfl x _ fun _ => rfl
theorem mem_7 (y : S4096x128.Idx) (h : (y 0).val % 8 = 7) : y ∈ (⟨(⟨![7, 0], S512x128.size, ![8, 1], inb_S4096x128_S512x128_7_0_s_8_1⟩ : LoadRect S4096x128), spos_8_1⟩ : Rect S4096x128).set := mem_tile y 7 _ rfl rfl rfl h

/-- What the eight strided stores leave. -/
theorem read_tiles (arg8 : Memref sig .tc .vmem S4096x128 .f32) (f : arg8.view.ty.Contents (Elt F)) (a b c : FVec F S512x1024 .f32) (d : Vec F S1024x1024 .bf16) (e : Vec F S1x1x1x1024 .f32) :
    arg8.view.read (Elt F) (arg8.view.writes (Elt F) f [⟨(⟨(⟨![7, 0], S512x128.size, ![8, 1], inb_S4096x128_S512x128_7_0_s_8_1⟩ : LoadRect S4096x128), spos_8_1⟩ : Rect S4096x128), k0_pay4 (k0_pay10 a b c d e)⟩,
      ⟨(⟨(⟨![6, 0], S512x128.size, ![8, 1], inb_S4096x128_S512x128_6_0_s_8_1⟩ : LoadRect S4096x128), spos_8_1⟩ : Rect S4096x128), k0_pay3 (k0_pay10 a b c d e)⟩,
      ⟨(⟨(⟨![5, 0], S512x128.size, ![8, 1], inb_S4096x128_S512x128_5_0_s_8_1⟩ : LoadRect S4096x128), spos_8_1⟩ : Rect S4096x128), k0_pay16 a b c d e⟩,
      ⟨(⟨(⟨![4, 0], S512x128.size, ![8, 1], inb_S4096x128_S512x128_4_0_s_8_1⟩ : LoadRect S4096x128), spos_8_1⟩ : Rect S4096x128), k0_pay15 a b c d e⟩,
      ⟨(⟨(⟨![3, 0], S512x128.size, ![8, 1], inb_S4096x128_S512x128_3_0_s_8_1⟩ : LoadRect S4096x128), spos_8_1⟩ : Rect S4096x128), k0_pay14 a b c d e⟩,
      ⟨(⟨(⟨![2, 0], S512x128.size, ![8, 1], inb_S4096x128_S512x128_2_0_s_8_1⟩ : LoadRect S4096x128), spos_8_1⟩ : Rect S4096x128), k0_pay13 a b c d e⟩,
      ⟨(⟨(⟨![1, 0], S512x128.size, ![8, 1], inb_S4096x128_S512x128_1_0_s_8_1⟩ : LoadRect S4096x128), spos_8_1⟩ : Rect S4096x128), k0_pay12 a b c d e⟩,
      ⟨(⟨(⟨![0, 0], S512x128.size, ![8, 1], inb_S4096x128_S512x128_0_0_s_8_1⟩ : LoadRect S4096x128), spos_8_1⟩ : Rect S4096x128), k0_pay11 a b c d e⟩]) = tiles (k0_pay10 a b c d e) := by
  funext y
  refine View.read_writes_apply_of_pieces _ _ (tiles (k0_pay10 a b c d e)) _ ?_ y ?_
  · intro p hp
    simp only [List.mem_cons, List.not_mem_nil, or_false] at hp
    rcases hp with rfl | rfl | rfl | rfl | rfl | rfl | rfl | rfl
    · exact piece_7 (k0_pay10 a b c d e)
    · exact piece_6 (k0_pay10 a b c d e)
    · exact piece_5 (k0_pay10 a b c d e)
    · exact piece_4 (k0_pay10 a b c d e)
    · exact piece_3 (k0_pay10 a b c d e)
    · exact piece_2 (k0_pay10 a b c d e)
    · exact piece_1 (k0_pay10 a b c d e)
    · exact piece_0 (k0_pay10 a b c d e)
  · rcases mod8 y with h | h | h | h | h | h | h | h
    · exact ⟨_, List.mem_cons_self, mem_7 y h⟩
    · exact ⟨_, (List.mem_cons_of_mem _ List.mem_cons_self), mem_6 y h⟩
    · exact ⟨_, (List.mem_cons_of_mem _ (List.mem_cons_of_mem _ List.mem_cons_self)), mem_5 y h⟩
    · exact ⟨_, (List.mem_cons_of_mem _ (List.mem_cons_of_mem _ (List.mem_cons_of_mem _ List.mem_cons_self))), mem_4 y h⟩
    · exact ⟨_, (List.mem_cons_of_mem _ (List.mem_cons_of_mem _ (List.mem_cons_of_mem _ (List.mem_cons_of_mem _ List.mem_cons_self)))), mem_3 y h⟩
    · exact ⟨_, (List.mem_cons_of_mem _ (List.mem_cons_of_mem _ (List.mem_cons_of_mem _ (List.mem_cons_of_mem _ (List.mem_cons_of_mem _ List.mem_cons_self))))), mem_2 y h⟩
    · exact ⟨_, (List.mem_cons_of_mem _ (List.mem_cons_of_mem _ (List.mem_cons_of_mem _ (List.mem_cons_of_mem _ (List.mem_cons_of_mem _ (List.mem_cons_of_mem _ List.mem_cons_self)))))), mem_1 y h⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_0 y h⟩

/-! ## The conditions -/

/-- The word of the first table at the point, and at the point before. -/
abbrev cur (c : Dev nD) (i : grid0.Coords) (xt0 : TabBuf (F := F) c tabE) : BitVec 32 :=
  View.readAt (Elt F) tabE.view (Rect.unit (s := S320) (k0_off1 i) ![1] (k0_off1_inb i)).toLoadRect xt0 (Shape.Idx.first numel1_S1.ge)
abbrev prev (c : Dev nD) (i : grid0.Coords) (xt0 : TabBuf (F := F) c tabE) : BitVec 32 :=
  View.readAt (Elt F) tabE.view (Rect.unit (s := S320) (k0_off2 i) ![1] (k0_off2_inb i)).toLoadRect xt0 (Shape.Idx.first numel1_S1.ge)
/-- The word of the second table. -/
abbrev cnt (c : Dev nD) (xt1 : TabBuf (F := F) c tabN) : BitVec 32 :=
  View.readAt (Elt F) tabN.view (Rect.unit (s := S1) ![0] ![1] inb_S1_S1_0).toLoadRect xt1 (Shape.Idx.first numel1_S1.ge)

/-- The weights are loaded at the point. -/
abbrev Loads (c : Dev nD) (i : grid0.Coords) (xt0 : TabBuf (F := F) c tabE) : Prop :=
  Scalar.cmpi .ne (Scalar.extui (Scalar.ori (Scalar.cmpi .eq (BitVec.ofNat 32 (i 0).val) 0#32) (Scalar.cmpi .ne (cur c i xt0) (prev c i xt0)))) 0#32 = 1#1

/-- The block holds rows of a token. -/
abbrev Used (i : grid0.Coords) (n : BitVec 32) : Prop := (BitVec.ofNat 32 (i 0).val).slt n = true

theorem cond2_iff (i : grid0.Coords) (n : BitVec 32) : k0_cond2 i n = 1#1 ↔ Used i n := by
  unfold k0_cond2 Used
  simp only [Scalar.cmpi, IntOp.cmpi]
  cases (BitVec.ofNat 32 (i 0).val).slt n <;> decide
theorem cond3_iff (i : grid0.Coords) (n : BitVec 32) : k0_cond3 i n = 1#1 ↔ ¬ Used i n := by
  unfold k0_cond3 Used
  simp only [Scalar.cmpi, IntOp.cmpi]
  rw [show n.sle (BitVec.ofNat 32 (i 0).val) = !((BitVec.ofNat 32 (i 0).val).slt n) from by simp only [BitVec.sle, BitVec.slt]; by_cases h : (BitVec.ofNat 32 (i 0).val).toInt < n.toInt <;> simp [h, not_le.mpr, not_lt.mp]]
  cases (BitVec.ofNat 32 (i 0).val).slt n <;> decide

/-- What the body leaves in the result's block. -/
def blockOut (i : grid0.Coords) (n : BitVec 32) (x0 : Vec F S4096x128 .f32) (x1 : Vec F S1x1x1024x2048 .f32) (x2 : Vec F S1x1x1x2048 .f32) (x3 : Vec F S1x1x1024x1024 .f32) (x4 : Vec F S1x1x1x1024 .f32) : Vec F S4096x128 .f32 :=
  if Used i n then tiles (rowsOut x0 (k0_pay1 x1) x2 (k0_pay2 x3) x4) else k0_pay5

/-- The payloads over what the loads read are those over what the buffers hold. -/
theorem rows_eq {arg3 : Memref sig .tc .vmem S4096x128 .f32} {f0 : arg3.view.ty.Contents (Elt F)} {x0 : Vec F S4096x128 .f32} {v1 w1 : Vec F S1024x2048 .bf16} {v2 x2 : Vec F S1x1x1x2048 .f32}
    {v3 w2 : Vec F S1024x1024 .bf16} {v4 x4 : Vec F S1x1x1x1024 .f32} (h0 : arg3.view.read (Elt F) f0 = x0) (h1 : v1 = w1) (h2 : v2 = x2) (h3 : v3 = w2) (h4 : v4 = x4) :
    k0_pay10 (k0_pay7 (arg3.view.readAt (Elt F) (⟨![0, 0], S512x128.size, ![8, 1], inb_S4096x128_S512x128_0_0_s_8_1⟩ : LoadRect S4096x128) f0) (arg3.view.readAt (Elt F) (⟨![1, 0], S512x128.size, ![8, 1], inb_S4096x128_S512x128_1_0_s_8_1⟩ : LoadRect S4096x128) f0) (arg3.view.readAt (Elt F) (⟨![2, 0], S512x128.size, ![8, 1], inb_S4096x128_S512x128_2_0_s_8_1⟩ : LoadRect S4096x128) f0) (arg3.view.readAt (Elt F) (⟨![3, 0], S512x128.size, ![8, 1], inb_S4096x128_S512x128_3_0_s_8_1⟩ : LoadRect S4096x128) f0) (arg3.view.readAt (Elt F) (⟨![4, 0], S512x128.size, ![8, 1], inb_S4096x128_S512x128_4_0_s_8_1⟩ : LoadRect S4096x128) f0) (arg3.view.readAt (Elt F) (⟨![5, 0], S512x128.size, ![8, 1], inb_S4096x128_S512x128_5_0_s_8_1⟩ : LoadRect S4096x128) f0) (arg3.view.readAt (Elt F) (⟨![6, 0], S512x128.size, ![8, 1], inb_S4096x128_S512x128_6_0_s_8_1⟩ : LoadRect S4096x128) f0) (arg3.view.readAt (Elt F) (⟨![7, 0], S512x128.size, ![8, 1], inb_S4096x128_S512x128_7_0_s_8_1⟩ : LoadRect S4096x128) f0) v1 v2) (k0_pay8 (arg3.view.readAt (Elt F) (⟨![0, 0], S512x128.size, ![8, 1], inb_S4096x128_S512x128_0_0_s_8_1⟩ : LoadRect S4096x128) f0) (arg3.view.readAt (Elt F) (⟨![1, 0], S512x128.size, ![8, 1], inb_S4096x128_S512x128_1_0_s_8_1⟩ : LoadRect S4096x128) f0) (arg3.view.readAt (Elt F) (⟨![2, 0], S512x128.size, ![8, 1], inb_S4096x128_S512x128_2_0_s_8_1⟩ : LoadRect S4096x128) f0) (arg3.view.readAt (Elt F) (⟨![3, 0], S512x128.size, ![8, 1], inb_S4096x128_S512x128_3_0_s_8_1⟩ : LoadRect S4096x128) f0) (arg3.view.readAt (Elt F) (⟨![4, 0], S512x128.size, ![8, 1], inb_S4096x128_S512x128_4_0_s_8_1⟩ : LoadRect S4096x128) f0) (arg3.view.readAt (Elt F) (⟨![5, 0], S512x128.size, ![8, 1], inb_S4096x128_S512x128_5_0_s_8_1⟩ : LoadRect S4096x128) f0) (arg3.view.readAt (Elt F) (⟨![6, 0], S512x128.size, ![8, 1], inb_S4096x128_S512x128_6_0_s_8_1⟩ : LoadRect S4096x128) f0) (arg3.view.readAt (Elt F) (⟨![7, 0], S512x128.size, ![8, 1], inb_S4096x128_S512x128_7_0_s_8_1⟩ : LoadRect S4096x128) f0) v1 v2) k0_pay9 v3 v4 = rowsOut x0 w1 x2 w2 x4 := by
  subst h0 h1 h2 h3 h4; rfl

/-! ## The four runs: the weights loaded or kept, the block used or not -/

set_option maxHeartbeats 1000000 in
theorem run_load_used (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : Loads c i xt0) (hU : k0_cond2 i (cnt c xt1) = 1#1) (hV : ¬ k0_cond3 i (cnt c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tabPt c tabE xt0 ∗ tabPt c tabN xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tiles (rowsOut x0 (k0_pay1 x1) x2 (k0_pay2 x3) x4)) ∗ owns (c : Thread nD τ) arg9 fullShare (k0_pay1 x1) ∗ owns (c : Thread nD τ) arg10 fullShare (k0_pay2 x3) ∗ tabPt c tabE xt0 ∗ tabPt c tabN xt1) -∗ K ⟨⟩))
      ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hA | sl_exact hU | sl_exact hV)
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]
    · iexists _; isplitr; swap; · iexact H5
      ipureintro; exact (read_tiles arg8 f5 _ _ _ _ _).trans (congrArg tiles (rows_eq hf0 ((View.readAt_writes_full arg9.view _ _ _ _ _).trans (congrArg k0_pay1 ((View.readAt_full arg4.view _ _).trans hf1))) ((View.readAt_full arg5.view _ _).trans hf2) ((View.readAt_writes_full arg10.view _ _ _ _ _).trans (congrArg k0_pay2 ((View.readAt_full arg6.view _ _).trans hf3))) ((View.readAt_full arg7.view _ _).trans hf4)))
    isplitl [HS0]
    · iexists _; isplitr; swap; · iexact HS0
      ipureintro; exact (View.read_writes_full arg9.view fs0 _ _ _).trans (congrArg k0_pay1 ((View.readAt_full arg4.view _ _).trans hf1))
    isplitl [HS1]
    · iexists _; isplitr; swap; · iexact HS1
      ipureintro; exact (View.read_writes_full arg10.view fs1 _ _ _).trans (congrArg k0_pay2 ((View.readAt_full arg6.view _ _).trans hf3))
    isplitl [HT0]; · iexact HT0
    iexact HT1

set_option maxHeartbeats 1000000 in
theorem run_keep_used (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : ¬ Loads c i xt0) (hU : k0_cond2 i (cnt c xt1) = 1#1) (hV : ¬ k0_cond3 i (cnt c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare (k0_pay1 x1) ∗ owns (c : Thread nD τ) arg10 fullShare (k0_pay2 x3) ∗ tabPt c tabE xt0 ∗ tabPt c tabN xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tiles (rowsOut x0 (k0_pay1 x1) x2 (k0_pay2 x3) x4)) ∗ owns (c : Thread nD τ) arg9 fullShare (k0_pay1 x1) ∗ owns (c : Thread nD τ) arg10 fullShare (k0_pay2 x3) ∗ tabPt c tabE xt0 ∗ tabPt c tabN xt1) -∗ K ⟨⟩))
      ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hs0; obtain rfl := harg10.eq_unread hs1
    sl_exec (disch := first | sl_exact hA | sl_exact hU | sl_exact hV)
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]
    · iexists _; isplitr; swap; · iexact H5
      ipureintro; exact (read_tiles arg8 f5 _ _ _ _ _).trans (congrArg tiles (rows_eq hf0 ((View.readAt_full arg9.view _ _).trans hs0) ((View.readAt_full arg5.view _ _).trans hf2) ((View.readAt_full arg10.view _ _).trans hs1) ((View.readAt_full arg7.view _ _).trans hf4)))
    isplitl [HS0]
    · iexists _; isplitr; swap; · iexact HS0
      ipureintro; exact hs0
    isplitl [HS1]
    · iexists _; isplitr; swap; · iexact HS1
      ipureintro; exact hs1
    isplitl [HT0]; · iexact HT0
    iexact HT1

set_option maxHeartbeats 1000000 in
theorem run_load_idle (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : Loads c i xt0) (hU : ¬ k0_cond2 i (cnt c xt1) = 1#1) (hV : k0_cond3 i (cnt c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tabPt c tabE xt0 ∗ tabPt c tabN xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare k0_pay5 ∗ owns (c : Thread nD τ) arg9 fullShare (k0_pay1 x1) ∗ owns (c : Thread nD τ) arg10 fullShare (k0_pay2 x3) ∗ tabPt c tabE xt0 ∗ tabPt c tabN xt1) -∗ K ⟨⟩))
      ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hA | sl_exact hU | sl_exact hV)
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]
    · iexists _; isplitr; swap; · iexact H5
      ipureintro; exact View.read_writes_full arg8.view f5 _ _ _
    isplitl [HS0]
    · iexists _; isplitr; swap; · iexact HS0
      ipureintro; exact (View.read_writes_full arg9.view fs0 _ _ _).trans (congrArg k0_pay1 ((View.readAt_full arg4.view _ _).trans hf1))
    isplitl [HS1]
    · iexists _; isplitr; swap; · iexact HS1
      ipureintro; exact (View.read_writes_full arg10.view fs1 _ _ _).trans (congrArg k0_pay2 ((View.readAt_full arg6.view _ _).trans hf3))
    isplitl [HT0]; · iexact HT0
    iexact HT1

set_option maxHeartbeats 1000000 in
theorem run_keep_idle (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : ¬ Loads c i xt0) (hU : ¬ k0_cond2 i (cnt c xt1) = 1#1) (hV : k0_cond3 i (cnt c xt1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare (k0_pay1 x1) ∗ owns (c : Thread nD τ) arg10 fullShare (k0_pay2 x3) ∗ tabPt c tabE xt0 ∗ tabPt c tabN xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare k0_pay5 ∗ owns (c : Thread nD τ) arg9 fullShare (k0_pay1 x1) ∗ owns (c : Thread nD τ) arg10 fullShare (k0_pay2 x3) ∗ tabPt c tabE xt0 ∗ tabPt c tabN xt1) -∗ K ⟨⟩))
      ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hs0; obtain rfl := harg10.eq_unread hs1
    sl_exec (disch := first | sl_exact hA | sl_exact hU | sl_exact hV)
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]
    · iexists _; isplitr; swap; · iexact H5
      ipureintro; exact View.read_writes_full arg8.view f5 _ _ _
    isplitl [HS0]
    · iexists _; isplitr; swap; · iexact HS0
      ipureintro; exact hs0
    isplitl [HS1]
    · iexists _; isplitr; swap; · iexact HS1
      ipureintro; exact hs1
    isplitl [HT0]; · iexact HT0
    iexact HT1

end Cert.Moe

end
-- ==== Proof.MoeWords.lean ====
/- The words the experts' call reads off its tables, and the blocks of the weights they name. -/
module

public import proofs.«01_k».proof.Proof.MoeBody
public import Idealize.ShloMosaic.Lib.Pipeline.ValueKit

@[expose] public section

set_option maxRecDepth 16384

noncomputable section

namespace Cert.Moe

open Idealize.ShloMosaic Idealize.ShloMosaic.TcCoe
open Idealize.SL Idealize.SL.Sem
open Cert.Kernel2Ideal Cert.Kernel2Ideal.Gen

variable {F : FTy → Type} [FloatOps F]
variable (m : (ℓ : Loc nD τ sig) → Buf (Elt F) ℓ)

/-- The word of a table of 320 at a position. -/
abbrev at320 (x : S320.Idx → BitVec 32) (n : ℕ) (h : n < 320) : BitVec 32 := x fun d => match d with | ⟨0, _⟩ => (⟨n, h⟩ : Fin 320)

theorem cur_eq (c : Dev nD) (i : grid0.Coords) (xt0 : TabBuf (F := F) c tabE) : cur c i xt0 = at320 xt0 (i 0).val (i 0).isLt := by
  refine congrArg xt0 (funext fun a => Fin.ext ?_)
  match a with
  | ⟨0, _⟩ =>
    show k0_off1 i 0 + 1 * 0 = (i 0).val
    rw [k0_off1_eq]; rfl

theorem off2_eq (i : grid0.Coords) : k0_off2 i 0 = (i 0).val - 1 := by
  have r_i0 : (i 0).val < 320 := (i 0).isLt
  have h_arg0 : Affine.IsInt (BitVec.ofNat 32 (i 0).val) (((i 0).val : Int)) := Affine.ofNat _ (by omega)
  have h_c1_i32 : Affine.IsInt 1#32 (1) := Affine.ofNat _ (by omega)
  have h_v3 : Affine.IsInt _ (((i 0).val : Int) - 1) := Affine.subi h_arg0 h_c1_i32 (by omega)
  have h_c0_i32_0 : Affine.IsInt 0#32 (0) := Affine.ofNat _ (by omega)
  have h_v4 : Affine.IsInt _ ((max (((i 0).val : Int) - 1) 0)) := Affine.maxsi h_v3 h_c0_i32_0 (by omega)
  have h_v5 : Affine.IsInt _ ((max (((i 0).val : Int) - 1) 0)) := Affine.indexCast h_v4
  exact congrFun (Affine.vec_cons h_v5 (by omega) Affine.vec_nil : k0_off2 i = ![(i 0).val - 1]) 0

theorem prev_eq (c : Dev nD) (i : grid0.Coords) (xt0 : TabBuf (F := F) c tabE) :
    prev c i xt0 = at320 xt0 ((i 0).val - 1) (by have := show (i 0).val < 320 from (i 0).isLt; omega) := by
  refine congrArg xt0 (funext fun a => Fin.ext ?_)
  match a with
  | ⟨0, _⟩ =>
    show k0_off2 i 0 + 1 * 0 = (i 0).val - 1
    rw [off2_eq]; omega

/-- Where the weights are kept, the point is not the first and names the expert of the point before. -/
theorem kept_word (c : Dev nD) (i : grid0.Coords) (xt0 : TabBuf (F := F) c tabE) (h : ¬ Loads c i xt0) : (i 0).val ≠ 0 ∧ cur c i xt0 = prev c i xt0 := by
  unfold Loads at h
  generalize cur c i xt0 = x at h ⊢
  generalize prev c i xt0 = y at h ⊢
  by_cases h0 : (i 0).val = 0
  · refine absurd ?_ h
    rw [h0]
    simp only [Scalar.cmpi, Scalar.ori, IntOp.ori, IntOp.cmpi]
    cases (x != y) <;> decide
  · refine ⟨h0, ?_⟩
    by_contra hne
    refine h ?_
    simp only [Scalar.cmpi, Scalar.ori, IntOp.ori, IntOp.cmpi]
    rw [bne_iff_ne.mpr hne]
    cases (BitVec.ofNat 32 (i 0).val == 0#32) <;> decide

/-- The grid's one coordinate is the point. -/
theorem coords_val (t : Fin grid0.N) : ((grid0.coords t) 0).val = t.val := (by decide +kernel : ∀ t : Fin grid0.N, ((grid0.coords t) 0).val = t.val) t

/-- The expert a point names. -/
theorem word_lt (hO : Ok m) (t : Fin 320) : (at320 (tbl m 0) t.val t.isLt).toNat < 32 := by
  obtain ⟨h, -⟩ := hO.1 (fun d => match d with | ⟨0, _⟩ => t)
  have h1 : (_ + 1) * 1 ≤ 32 := h 1
  rw [Nat.mul_one] at h1
  refine lt_of_eq_of_lt ?_ (Nat.lt_of_succ_le h1)
  refine congrArg (fun z => (tbl m 0 z : BitVec 32).toNat) (funext fun a => Fin.ext ?_)
  match a with
  | ⟨0, _⟩ =>
    show t.val = (BitVec.ofNat 32 t.val).toNat + 1 * 0
    rw [BitVec.toNat_ofNat, Nat.mod_eq_of_lt (by have := t.isLt; omega)]; omega
def expert (hO : Ok m) (t : Fin 320) : Fin 32 := ⟨_, word_lt m hO t⟩

theorem pf_word (t : Fin grid0.N) (h : t.val < 320) (hi) (h1) :
    (Pipeline.Prefetch.Contents.at (tbl m) 0 (Rect.unit (s := S320) ![(Scalar.indexCast (BitVec.ofNat 32 ((grid0.coords t) 0).val)).toNat] S1.size hi) h1 : BitVec 32)
      = at320 (tbl m 0) t.val h := by
  refine congrArg (fun z => (tbl m 0 z : BitVec 32)) (funext fun a => Fin.ext ?_)
  match a with
  | ⟨0, _⟩ =>
    show (BitVec.ofNat 32 ((grid0.coords t) 0).val).toNat + 1 * 0 = t.val
    rw [coords_val, BitVec.toNat_ofNat, Nat.mod_eq_of_lt (by omega)]; omega

theorem iblk1_eq (hO : Ok m) (c : Dev nD) (t : Fin (cfgM m hO).N) (h : t.val < 320) (y : S1x1x1024x2048.Idx) :
    (show Vec F S1x1x1024x2048 .f32 from iblk m hO c 1 t) y = V m c main_arg3 (ix4 1 (expert m hO ⟨t.val, h⟩) (y 2) (y 3)) := by
  unfold expert
  blk_simp [iblk]
  refine congrArg (V m c main_arg3) (funext fun a => Fin.ext ?_)
  have y0 : (y 0).val < 1 := (y 0).isLt
  have y1 : (y 1).val < 1 := (y 1).isLt
  match a with
  | ⟨0, _⟩ => show 1 * 1 + 1 * (y 0).val = 1; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk2_eq (hO : Ok m) (c : Dev nD) (t : Fin (cfgM m hO).N) (h : t.val < 320) (y : S1x1x1x2048.Idx) :
    (show Vec F S1x1x1x2048 .f32 from iblk m hO c 2 t) y = V m c main_v1 (ix4 1 (expert m hO ⟨t.val, h⟩) (y 2) (y 3)) := by
  unfold expert
  blk_simp [iblk]
  refine congrArg (V m c main_v1) (funext fun a => Fin.ext ?_)
  have y0 : (y 0).val < 1 := (y 0).isLt
  have y1 : (y 1).val < 1 := (y 1).isLt
  match a with
  | ⟨0, _⟩ => show 1 * 1 + 1 * (y 0).val = 1; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk3_eq (hO : Ok m) (c : Dev nD) (t : Fin (cfgM m hO).N) (h : t.val < 320) (y : S1x1x1024x1024.Idx) :
    (show Vec F S1x1x1024x1024 .f32 from iblk m hO c 3 t) y = V m c main_arg5 (ix4 1 (expert m hO ⟨t.val, h⟩) (y 2) (y 3)) := by
  unfold expert
  blk_simp [iblk]
  refine congrArg (V m c main_arg5) (funext fun a => Fin.ext ?_)
  have y0 : (y 0).val < 1 := (y 0).isLt
  have y1 : (y 1).val < 1 := (y 1).isLt
  match a with
  | ⟨0, _⟩ => show 1 * 1 + 1 * (y 0).val = 1; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk4_eq (hO : Ok m) (c : Dev nD) (t : Fin (cfgM m hO).N) (h : t.val < 320) (y : S1x1x1x1024.Idx) :
    (show Vec F S1x1x1x1024 .f32 from iblk m hO c 4 t) y = V m c main_v2 (ix4 1 (expert m hO ⟨t.val, h⟩) (y 2) (y 3)) := by
  unfold expert
  blk_simp [iblk]
  refine congrArg (V m c main_v2) (funext fun a => Fin.ext ?_)
  have y0 : (y 0).val < 1 := (y 0).isLt
  have y1 : (y 1).val < 1 := (y 1).isLt
  match a with
  | ⟨0, _⟩ => show 1 * 1 + 1 * (y 0).val = 1; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk0_eq (hO : Ok m) (c : Dev nD) (t : Fin (cfgM m hO).N) (h : t.val < 320) (y : S4096x128.Idx) :
    (show Vec F S4096x128 .f32 from iblk m hO c 0 t) y
      = V m c main_v0 (ix2 (⟨t.val * 4096 + (y 0).val, by have := show (y 0).val < 4096 from (y 0).isLt; omega⟩ : Fin 1310720) (y 1)) := by
  blk_simp [iblk]
  refine congrArg (V m c main_v0) (funext fun a => Fin.ext ?_)
  match a with
  | ⟨0, _⟩ =>
    show (BitVec.ofNat 32 ((grid0.coords t) 0).val).toNat * 4096 + 1 * (y 0).val = t.val * 4096 + (y 0).val
    rw [coords_val, BitVec.toNat_ofNat, Nat.mod_eq_of_lt (by omega)]; omega
  | ⟨1, _⟩ => show 0 * _ + 1 * (y 1).val = (y 1).val; omega

/-- Points that name one expert read one block of the weights. -/
theorem iblk1_congr (hO : Ok m) (c : Dev nD) (t t' : Fin (cfgM m hO).N) (h : t.val < 320) (h' : t'.val < 320)
    (e : at320 (tbl m 0) t.val h = at320 (tbl m 0) t'.val h') : (show Vec F S1x1x1024x2048 .f32 from iblk m hO c 1 t) = iblk m hO c 1 t' := by
  funext y
  refine (iblk1_eq m hO c t h y).trans (Eq.trans ?_ (iblk1_eq m hO c t' h' y).symm)
  unfold expert; simp only [e]
theorem iblk3_congr (hO : Ok m) (c : Dev nD) (t t' : Fin (cfgM m hO).N) (h : t.val < 320) (h' : t'.val < 320)
    (e : at320 (tbl m 0) t.val h = at320 (tbl m 0) t'.val h') : (show Vec F S1x1x1024x1024 .f32 from iblk m hO c 3 t) = iblk m hO c 3 t' := by
  funext y
  refine (iblk3_eq m hO c t h y).trans (Eq.trans ?_ (iblk3_eq m hO c t' h' y).symm)
  unfold expert; simp only [e]

end Cert.Moe
end
-- ==== Proof.MoeRun.lean ====
/- The run of the experts' call: the proof data of its pipeline (each block of the result at `blockOut`, the two scratch
   buffers at the weights of the last point's expert), and what the run leaves. -/
module

public import proofs.«01_k».proof.Proof.MoeWords

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A block that loads its expert's weights. -/
theorem run_load (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : Loads c i xt0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tabPt c tabE xt0 ∗ tabPt c tabN xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut i (cnt c xt1) x0 x1 x2 x3 x4) ∗ owns (c : Thread nD τ) arg9 fullShare (k0_pay1 x1) ∗ owns (c : Thread nD τ) arg10 fullShare (k0_pay2 x3) ∗ tabPt c tabE xt0 ∗ tabPt c tabN xt1) -∗ K ⟨⟩))
      ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
  by_cases hu : Used i (cnt c xt1)
  · rw [show blockOut i (cnt c xt1) x0 x1 x2 x3 x4 = _ from if_pos hu]
    exact run_load_used c i arg3 harg3 arg4 harg4 arg5 harg5 arg6 harg6 arg7 harg7 arg8 harg8 arg9 harg9 arg10 harg10 x0 x1 x2 x3 x4 xt0 xt1 hA ((cond2_iff _ _).mpr hu) (fun h => (cond3_iff _ _).mp h hu) E K
  · rw [show blockOut i (cnt c xt1) x0 x1 x2 x3 x4 = _ from if_neg hu]
    exact run_load_idle c i arg3 harg3 arg4 harg4 arg5 harg5 arg6 harg6 arg7 harg7 arg8 harg8 arg9 harg9 arg10 harg10 x0 x1 x2 x3 x4 xt0 xt1 hA (fun h => hu ((cond2_iff _ _).mp h)) ((cond3_iff _ _).mpr hu) E K

/-- A block that keeps the weights of the block before. -/
theorem run_keep (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : ¬ Loads c i xt0) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare (k0_pay1 x1) ∗ owns (c : Thread nD τ) arg10 fullShare (k0_pay2 x3) ∗ tabPt c tabE xt0 ∗ tabPt c tabN xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut i (cnt c xt1) x0 x1 x2 x3 x4) ∗ owns (c : Thread nD τ) arg9 fullShare (k0_pay1 x1) ∗ owns (c : Thread nD τ) arg10 fullShare (k0_pay2 x3) ∗ tabPt c tabE xt0 ∗ tabPt c tabN xt1) -∗ K ⟨⟩))
      ⊢ wp frame (wpE (defs₀ (F := F)) Variants.none c none) E (cc0_moe_experts i tabE htabE tabN htabN arg3 harg3 arg4 harg4 arg5 harg5 arg6 harg6 arg7 harg7 arg8 harg8 arg9 harg9 arg10 harg10) K := by
  by_cases hu : Used i (cnt c xt1)
  · rw [show blockOut i (cnt c xt1) x0 x1 x2 x3 x4 = _ from if_pos hu]
    exact run_keep_used c i arg3 harg3 arg4 harg4 arg5 harg5 arg6 harg6 arg7 harg7 arg8 harg8 arg9 harg9 arg10 harg10 x0 x1 x2 x3 x4 xt0 xt1 hA ((cond2_iff _ _).mpr hu) (fun h => (cond3_iff _ _).mp h hu) E K
  · rw [show blockOut i (cnt c xt1) x0 x1 x2 x3 x4 = _ from if_neg hu]
    exact run_keep_idle c i arg3 harg3 arg4 harg4 arg5 harg5 arg6 harg6 arg7 harg7 arg8 harg8 arg9 harg9 arg10 harg10 x0 x1 x2 x3 x4 xt0 xt1 hA (fun h => hu ((cond2_iff _ _).mp h)) ((cond3_iff _ _).mpr hu) E K

theorem owns_some (c : Dev nD) {S : Shape} {e : EltTy} (M : Memref sig .tc .vmem S e) (d : Vec F S e) :
    (owns (c : Thread nD τ) M fullShare d : sProp 𝕄) ⊢ iprop(∃ d, owns (c : Thread nD τ) M fullShare d) := by
  iintro H
  iexists _; iexact H

/-- A point that loads its expert's weights, with what the call hands on around the body: `S0` and `S1` own the scratch buffers at anything. -/
theorem point_load (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : Loads c i xt0) {D0 D1 D2 D3 D4 D5 : Type} (f5 : D5 → Vec F S4096x128 .f32) (G O S0 S1 : sProp 𝕄) (h0 : S0 ⊢ iprop(∃ d, owns (c : Thread nD τ) scI fullShare d)) (h1 : S1 ⊢ iprop(∃ d, owns (c : Thread nD τ) scO fullShare d)) :
    iprop(((((S0 ∗ S1) ∗ G) ∗ (tabPt c tabE xt0 ∗ tabPt c tabN xt1)) ∗ O ∗ (∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ d : D5, owns (c : Thread nD τ) arg8 fullShare (f5 d))))
      ⊢ wp frame (wpE (defs₀ (F := F)) Variants.none c none) Set.univ (cc0_moe_experts i tabE htabE tabN htabN arg3 harg3 arg4 harg4 arg5 harg5 arg6 harg6 arg7 harg7 arg8 harg8 scI (Memref.isWhole_whole _) scO (Memref.isWhole_whole _))
          (fun _ => iprop(((((owns (c : Thread nD τ) scI fullShare (k0_pay1 x1) ∗ owns (c : Thread nD τ) scO fullShare (k0_pay2 x3)) ∗ G) ∗ (tabPt c tabE xt0 ∗ tabPt c tabN xt1)) ∗ O ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut i (cnt c xt1) x0 x1 x2 x3 x4)))) := by
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_load c i _ _ _ _ _ _ _ _ _ _ _ _ _ _ _ _ x0 x1 x2 x3 x4 xt0 xt1 hA Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iapply h0; iexact HS0
  isplitl [HS1]; · iapply h1; iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- A point that keeps the weights, with what the call hands on around the body. -/
theorem point_keep (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : ¬ Loads c i xt0) {D0 D1 D2 D3 D4 D5 : Type} (f5 : D5 → Vec F S4096x128 .f32) (G O : sProp 𝕄) :
    iprop(((((owns (c : Thread nD τ) scI fullShare (k0_pay1 x1) ∗ owns (c : Thread nD τ) scO fullShare (k0_pay2 x3)) ∗ G) ∗ (tabPt c tabE xt0 ∗ tabPt c tabN xt1)) ∗ O ∗ (∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ d : D5, owns (c : Thread nD τ) arg8 fullShare (f5 d))))
      ⊢ wp frame (wpE (defs₀ (F := F)) Variants.none c none) Set.univ (cc0_moe_experts i tabE htabE tabN htabN arg3 harg3 arg4 harg4 arg5 harg5 arg6 harg6 arg7 harg7 arg8 harg8 scI (Memref.isWhole_whole _) scO (Memref.isWhole_whole _))
          (fun _ => iprop(((((owns (c : Thread nD τ) scI fullShare (k0_pay1 x1) ∗ owns (c : Thread nD τ) scO fullShare (k0_pay2 x3)) ∗ G) ∗ (tabPt c tabE xt0 ∗ tabPt c tabN xt1)) ∗ O ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut i (cnt c xt1) x0 x1 x2 x3 x4)))) := by
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (run_keep c i _ _ _ _ _ _ _ _ _ _ _ _ _ _ _ _ x0 x1 x2 x3 x4 xt0 xt1 hA Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  iintro ⟨H0, H1, H2, H3, H4, H5, HS0, HS1, HT0, HT1⟩
  isplitl [HS0 HS1 Hg HT0 HT1]
  · isplitl [HS0 HS1 Hg]
    · isplitl [HS0 HS1]
      · isplitl [HS0]
        · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-! ## The proof data -/

/-- The weights the scratch buffers hold after point `n`. -/
def wI (hO : Ok m) (c : Dev nD) (t : Fin (cfgM m hO).N) : Vec F S1024x2048 .bf16 := k0_pay1 (show Vec F S1x1x1024x2048 .f32 from iblk m hO c 1 t)
def wO (hO : Ok m) (c : Dev nD) (t : Fin (cfgM m hO).N) : Vec F S1024x1024 .bf16 := k0_pay2 (show Vec F S1x1x1024x1024 .f32 from iblk m hO c 3 t)

/-- The block of the result point `t` writes. -/
def outBlk (hO : Ok m) (c : Dev nD) (t : Fin (cfgM m hO).N) : Vec F S4096x128 .f32 :=
  blockOut (grid0.coords t) (cnt c (tbl m 1)) (iblk m hO c 0 t) (iblk m hO c 1 t) (iblk m hO c 2 t) (iblk m hO c 3 t) (iblk m hO c 4 t)

/-- The invariant before point `n`: the scratch buffers at anything before the first, then at the last point's weights. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scI fullShare (wI m hO c ⟨n, hn⟩) ∗ owns (c : Thread nD τ) scO fullShare (wO m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scI fullShare (wI m hO c ⟨n, hn⟩) ∗ owns (c : Thread nD τ) scO fullShare (wO m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scI fullShare (wI m hO c ⟨n - 1, by omega⟩) ∗ owns (c : Thread nD τ) scO fullShare (wO m hO c ⟨n - 1, by omega⟩)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outBlk m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t))

theorem kept_wI (hO : Ok m) (c : Dev nD) (t : Fin (cfgM m hO).N) (hL : ¬ Loads c (grid0.coords t) (tbl m 0)) :
    ∃ h0 : t.val ≠ 0, wI m hO c ⟨t.val - 1, by omega⟩ = wI m hO c t ∧ wO m hO c ⟨t.val - 1, by omega⟩ = wO m hO c t := by
  have hN : t.val < 320 := lt_of_lt_of_eq t.isLt (show (cfgM m hO).N = 320 from N_0)
  obtain ⟨h0, e⟩ := kept_word c (grid0.coords t) (tbl m 0) hL
  have e' := ((cur_eq c (grid0.coords t) (tbl m 0)).symm.trans e).trans (prev_eq c (grid0.coords t) (tbl m 0))
  clear e
  simp only [coords_val] at h0 e'
  exact ⟨h0, congrArg k0_pay1 (iblk1_congr m hO c ⟨t.val - 1, by omega⟩ t (by dsimp only; omega) hN e'.symm),
    congrArg k0_pay2 (iblk3_congr m hO c ⟨t.val - 1, by omega⟩ t (by dsimp only; omega) hN e'.symm)⟩

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    after_0, after_1, after_2, after_3, after_4, after_5]
  rw [show (dats m hO 0 c).Φ t.succ = PhiS m hO c (t.val + 1) t.isLt from rfl, PhiS_succ, PhiT_eq]
  unfold outBlk
  by_cases hL : Loads c (grid0.coords t) (tbl m 0)
  · by_cases hz : t.val = 0
    · rw [PhiS_castSucc m hO c t, PhiS_zero m hO c _ _ hz, PhiT_eq, PhiA_eq]
      exact point_load c (grid0.coords t) _ _ _ _ _ _ _ _ _ _ _ _ (iblk m hO c 0 t) (iblk m hO c 1 t) (iblk m hO c 2 t) (iblk m hO c 3 t) (iblk m hO c 4 t) (tbl m 0) (tbl m 1) hL _ _ _ _ _ .rfl .rfl
    · rw [PhiS_castSucc m hO c t, PhiS_pos m hO c _ _ hz, PhiT_eq]
      exact point_load c (grid0.coords t) _ _ _ _ _ _ _ _ _ _ _ _ (iblk m hO c 0 t) (iblk m hO c 1 t) (iblk m hO c 2 t) (iblk m hO c 3 t) (iblk m hO c 4 t) (tbl m 0) (tbl m 1) hL _ _ _ _ _ (owns_some c scI _) (owns_some c scO _)
  · obtain ⟨hz, e0, e1⟩ := kept_wI m hO c t hL
    rw [PhiS_castSucc m hO c t, PhiS_pos m hO c _ _ hz, PhiT_eq, e0, e1]
    exact point_keep c (grid0.coords t) _ _ _ _ _ _ _ _ _ _ _ _ (iblk m hO c 0 t) (iblk m hO c 1 t) (iblk m hO c 2 t) (iblk m hO c 3 t) (iblk m hO c 4 t) (tbl m 0) (tbl m 1) hL _ _ _

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's buffer is written back at every point, so what the body leaves in it is stated in one way. -/
theorem leaves_5 (hO : Ok m) (c : Dev nD) (t : Fin (cfgM m hO).N) :
    owns (c : Thread nD τ) (ms_5 m hO t) fullShare ((dats m hO 0 c).after 5 t) = ((dats m hO 0 c).leavesExact 5 t : sProp 𝕄) := by
  unfold Dat.leavesExact
  rw [flush_5 m hO t]
  generalize (cfgM m hO).idle 5 ((cfgM m hO).grid.coords t) = b
  cases b <;> rfl

/-- `bodyPost`, the result's buffer as the pipeline's obligation states it. -/
def bodyPost' (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ (dats m hO 0 c).leavesExact 5 t)

theorem post_eq (hO : Ok m) (c : Dev nD) (t : Fin (cfgM m hO).N) : bodyPost m hO c t = bodyPost' m hO c t := by
  unfold bodyPost bodyPost'
  rw [← leaves_5 m hO c t]

theorem sound_body' (hO : Ok m) (c : Dev nD) (t : Fin (cfgM m hO).N) :
    bodyPre m hO c t ⊢ wp frame (wpE (defs₀ (F := F)) Variants.none c none) Set.univ (bodyAt m hO t) (fun _ => bodyPost' m hO c t) :=
  post_eq m hO c t ▸ sound_body m hO c t

set_option maxHeartbeats 3200000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body' m hO c t) rfl .rfl fun _ => .rfl

/-! ## The run -/

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA_eq]
  iintro ⟨⟨⟨HS0, HS1⟩, Hg⟩, -⟩
  isplitl [HS0 HS1]
  · isplitl [HS0]
    · iexists _; iexact HS0
    iexists _; iexact HS1
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 320 := N_0; omega)

set_option backward.isDefEq.respectTransparency.types false in
/-- What the run of the program leaves. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_kept (hO : Ok m) : θ_run defs (onTc (τ := τ) (main (F := F))) (s₀ m ρ) (fun r => Kept m r.2.mem ∧ r.2.sem = fun _ => 0) :=
  (θ_run defs _ _).mono (fun r h => ⟨kept_of m hO (dats m hO) (A_eq m hO) r h.1, h.2⟩) (run_main m ρ hO)

end Cert.Moe

end
-- ==== Proof.MoePre.lean ====
/- What the precondition `experts` gives: every block's expert is one of the 32, so the blocks the table names lie inside the weights. -/
module

public import proofs.«01_k».proof.Proof.MoeRun
public import proofs.«01_k».proof.Proof.Gen.Pre_experts
public import proofs.«01_k».proof.Defs

@[expose] public section

set_option maxRecDepth 16384

noncomputable section

namespace Cert.Moe

open Idealize.ShloMosaic Idealize.ShloMosaic.TcCoe Idealize.SL.Sem
open Idealize.ShloMosaic.WordCmp
open Cert.Kernel2Ideal Cert.Kernel2Ideal.Gen

variable {F : FTy → Type} [FloatOps F]

attribute [local instance] Cert.Pre_experts.Gen.facts

theorem word_range (w : BitVec 32) (h : IntOp.cmpi .sge w 0#32 = 1#1 ∧ IntOp.cmpi .slt w 32#32 = 1#1) : w.toNat < 32 := by
  obtain ⟨h0, h1⟩ := h
  rw [cmpi_sge_eq, ofBool_decide_eq_one_iff] at h0
  rw [cmpi_slt_eq, ofBool_decide_eq_one_iff] at h1
  have e0 : (0#32 : BitVec 32).toInt = 0 := by decide
  have e1 : (32#32 : BitVec 32).toInt = 32 := by decide
  rw [e0] at h0
  rw [e1] at h1
  rw [BitVec.toInt_eq_toNat_cond] at h0 h1
  have := w.isLt
  split at h0 <;> omega

theorem words_of_fn (a0 : FVec F S163840x1024 .f32) (a1 : IVec S320 32) (a2 : IVec S1 32) (a3 : FVec F S2x32x1024x2048 .f32) (a4 : FVec F S2x32x2048 .f32)
    (a5 : FVec F S2x32x1024x1024 .f32) (a6 : FVec F S2x32x1024 .f32) (h : Cert.Pre_experts.fn (F := F) a0 a1 a2 a3 a4 a5 a6 = fun _ => 1#1) (z : S320.Idx) :
    (a1 z).toNat < 32 := by
  have andi_one (a b : BitVec 1) : IntOp.andi a b = 1#1 ↔ a = 1#1 ∧ b = 1#1 := by revert a b; decide
  have pre := congrFun h z
  simp only [Cert.Pre_experts.fn, constantI, broadcastInDim, cmpi, andi, andi_one] at pre
  exact word_range _ pre

variable (m : (ℓ : Loc nD τ sig) → Buf (Elt F) ℓ)

theorem tbl_0 : tbl m 0 = m (((0 : Dev nD).tc : Thread nD τ).loc main_arg1) := V_of m 0 main_arg1 ⟨by decide, by decide, by decide⟩
theorem tbl_1 : tbl m 1 = m (((0 : Dev nD).tc : Thread nD τ).loc main_arg2) := V_of m 0 main_arg2 ⟨by decide, by decide, by decide⟩

theorem ok_of_words (h : ∀ z, (m (((0 : Dev nD).tc : Thread nD τ).loc main_arg1) z : BitVec 32).toNat < 32) : Ok m := by
  have w : ∀ z, (tbl m 0 z : BitVec 32).toNat < 32 := by rw [tbl_0]; exact h
  refine ⟨fun i => ⟨fun a => ?_, .inl rfl⟩, fun i => ⟨fun a => ?_, .inl rfl⟩, fun i => ⟨fun a => ?_, .inl rfl⟩, fun i => ⟨fun a => ?_, .inl rfl⟩⟩
  · exact match a with
    | ⟨0, _⟩ => (by decide : (1 + 1) * 1 ≤ 2)
    | ⟨1, _⟩ => (Nat.mul_one _).trans_le (Nat.succ_le_of_lt (w _))
    | ⟨2, _⟩ => (by decide : (0 + 1) * 1024 ≤ 1024)
    | ⟨3, _⟩ => (by decide : (0 + 1) * 2048 ≤ 2048)
  · exact match a with
    | ⟨0, _⟩ => (by decide : (1 + 1) * 1 ≤ 2)
    | ⟨1, _⟩ => (Nat.mul_one _).trans_le (Nat.succ_le_of_lt (w _))
    | ⟨2, _⟩ => (by decide : (0 + 1) * 1 ≤ 1)
    | ⟨3, _⟩ => (by decide : (0 + 1) * 2048 ≤ 2048)
  · exact match a with
    | ⟨0, _⟩ => (by decide : (1 + 1) * 1 ≤ 2)
    | ⟨1, _⟩ => (Nat.mul_one _).trans_le (Nat.succ_le_of_lt (w _))
    | ⟨2, _⟩ => (by decide : (0 + 1) * 1024 ≤ 1024)
    | ⟨3, _⟩ => (by decide : (0 + 1) * 1024 ≤ 1024)
  · exact match a with
    | ⟨0, _⟩ => (by decide : (1 + 1) * 1 ≤ 2)
    | ⟨1, _⟩ => (Nat.mul_one _).trans_le (Nat.succ_le_of_lt (w _))
    | ⟨2, _⟩ => (by decide : (0 + 1) * 1 ≤ 1)
    | ⟨3, _⟩ => (by decide : (0 + 1) * 1024 ≤ 1024)

theorem ok_of_fn (h : ∀ c : Dev nD, Cert.Pre_experts.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1) : Ok m :=
  ok_of_words m (words_of_fn _ _ _ _ _ _ _ (h 0))

theorem frame_kernel2Ideal : Cert.quiescent_Kernel2Ideal (hPre_experts := Cert.Pre_experts.Gen.facts) := fun m ρ h => run_kept m ρ (ok_of_fn m h)

end Cert.Moe

end
-- ==== Proof.MoeRow.lean ====
/- One row of the experts' feed-forward, over the extended reals, and the value of a block of the call in its terms. -/
module

public import proofs.«01_k».proof.Proof.MoeBody
public import Idealize.ShloMosaic.Lib.Pointwise

@[expose] public section

set_option maxRecDepth 16384

noncomputable section

namespace Cert.Moe

open Idealize.ShloMosaic Idealize.ShloMosaic.TcCoe Idealize.SL.Sem
open Cert.Kernel2Ideal Cert.Kernel2Ideal.Gen

/-! ## The formula -/

/-- The first product and its bias. -/
def hid (X : Fin 1024 → EReal) (W : Fin 1024 → Fin 2048 → EReal) (B : Fin 2048 → EReal) (f : Fin 2048) : EReal := (∑ k, X k * W k f) + B f

/-- The gate: the first half, at most 7. -/
def gateOf (h : Fin 2048 → EReal) (f : Fin 1024) : EReal := min (h ⟨f.val, by omega⟩) (Ideal.ofBits .f32 0x40E00000#32)

/-- The linear part: the second half, between -7 and 7. -/
def upOf (h : Fin 2048 → EReal) (f : Fin 1024) : EReal :=
  min (Ideal.ofBits .f32 0x40E00000#32) (max (Ideal.ofBits .f32 0xC0E00000#32) (h ⟨1024 + f.val, by omega⟩))

/-- The linear part plus one, times the gate times its logistic at 1.702. -/
def actOf (g u : EReal) : EReal :=
  (u + Ideal.ofBits .f32 0x3F800000#32)
    * (g * Ideal.div (Ideal.ofBits .f32 0x3F800000#32) (Ideal.ofBits .f32 0x3F800000#32 + Ideal.exp (-(Ideal.ofBits .f32 0x3FD9DB23#32 * g))))

/-- The second product and its bias. -/
def expertRow (X : Fin 1024 → EReal) (W1 : Fin 1024 → Fin 2048 → EReal) (B1 : Fin 2048 → EReal) (W2 : Fin 1024 → Fin 1024 → EReal) (B2 : Fin 1024 → EReal)
    (d : Fin 1024) : EReal :=
  (∑ f, actOf (gateOf (hid X W1 B1) f) (upOf (hid X W1 B1) f) * W2 f d) + B2 d

/-! ## The block -/

/-- The block's rows, whole again. -/
def rowsIn (x0 : Vec Ideal S4096x128 .f32) (r : Fin 512) (k : Fin 1024) : EReal :=
  (show FVec Ideal S4096x128 .f32 from x0) (ix2 ⟨r.val * 8 + k.val / 128, by omega⟩ ⟨k.val % 128, by omega⟩)

theorem slab_at (x0 : Vec Ideal S4096x128 .f32) (j : ℕ) (hj : j < 8) (hi) (r : Fin 512) (l : Fin 128) :
    (show FVec Ideal S512x128 .f32 from slab x0 (⟨![j, 0], S512x128.size, ![8, 1], hi⟩ : LoadRect S4096x128)) (ix2 r l) = rowsIn x0 r ⟨j * 128 + l.val, by omega⟩ := by
  refine congrArg x0 (funext fun a => Fin.ext ?_)
  match a with
  | ⟨0, _⟩ => show j + 8 * r.val = r.val * 8 + (j * 128 + l.val) / 128; omega
  | ⟨1, _⟩ => show 0 + 1 * l.val = (j * 128 + l.val) % 128; omega

theorem pay1_at (x1 : Vec Ideal S1x1x1024x2048 .f32) (k : Fin 1024) (f : Fin 2048) :
    (k0_pay1 x1 : FVec Ideal S1024x2048 .bf16) (ix2 k f) = (show FVec Ideal S1x1x1024x2048 .f32 from x1) (ix4 0 0 k f) := by
  pointwise [k0_pay1]

theorem pay2_at (x3 : Vec Ideal S1x1x1024x1024 .f32) (f : Fin 1024) (d : Fin 1024) :
    (k0_pay2 x3 : FVec Ideal S1024x1024 .bf16) (ix2 f d) = (show FVec Ideal S1x1x1024x1024 .f32 from x3) (ix4 0 0 f d) := by
  pointwise [k0_pay2]

theorem pay10_at (g u : FVec Ideal S512x1024 .f32) (w2 : Vec Ideal S1024x1024 .bf16) (x4 : Vec Ideal S1x1x1x1024 .f32) (r : Fin 512) (d : Fin 1024) :
    (k0_pay10 g u k0_pay9 w2 x4 : FVec Ideal S512x1024 .f32) (ix2 r d)
      = (∑ f : Fin 1024, actOf (g (ix2 r f)) (u (ix2 r f)) * (show FVec Ideal S1024x1024 .bf16 from w2) (ix2 f d)) + (show FVec Ideal S1x1x1x1024 .f32 from x4) (ix4 0 0 0 d) := by
  pointwise [k0_pay10, k0_pay9, actOf]
  simp only [zero_sub]

theorem pay6_at (x0 : Vec Ideal S4096x128 .f32) (v0 v1 v2 v3 v4 v5 v6 v7 : FVec Ideal S512x128 .f32) (w1 : Vec Ideal S1024x2048 .bf16) (x2 : Vec Ideal S1x1x1x2048 .f32)
    (h : ∀ (r : Fin 512) (l : Fin 128), v0 (ix2 r l) = rowsIn x0 r ⟨0 * 128 + l.val, by omega⟩ ∧ v1 (ix2 r l) = rowsIn x0 r ⟨1 * 128 + l.val, by omega⟩
      ∧ v2 (ix2 r l) = rowsIn x0 r ⟨2 * 128 + l.val, by omega⟩ ∧ v3 (ix2 r l) = rowsIn x0 r ⟨3 * 128 + l.val, by omega⟩
      ∧ v4 (ix2 r l) = rowsIn x0 r ⟨4 * 128 + l.val, by omega⟩ ∧ v5 (ix2 r l) = rowsIn x0 r ⟨5 * 128 + l.val, by omega⟩
      ∧ v6 (ix2 r l) = rowsIn x0 r ⟨6 * 128 + l.val, by omega⟩ ∧ v7 (ix2 r l) = rowsIn x0 r ⟨7 * 128 + l.val, by omega⟩)
    (r : Fin 512) (f : Fin 2048) :
    (k0_pay6 v0 v1 v2 v3 v4 v5 v6 v7 w1 x2 : FVec Ideal S512x2048 .f32) (ix2 r f)
      = hid (rowsIn x0 r) (fun k f => (show FVec Ideal S1024x2048 .bf16 from w1) (ix2 k f)) (fun f => (show FVec Ideal S1x1x1x2048 .f32 from x2) (ix4 0 0 0 f)) f := by
  pointwise [k0_pay6, hid]
  refine congrArg (· + _) (Finset.sum_congr rfl fun x _ => congrArg (· * _) ?_)
  by_cases h0 : x.val < 128
  · rw [dif_pos h0]
    exact (h r _).1.trans (congrArg (rowsIn x0 r) (Fin.ext (by show 0 * 128 + (x.val) = x.val; omega)))
  rw [dif_neg h0]
  by_cases h1 : x.val - 128 < 128
  · rw [dif_pos h1]
    exact (h r _).2.1.trans (congrArg (rowsIn x0 r) (Fin.ext (by show 1 * 128 + (x.val - 128) = x.val; omega)))
  rw [dif_neg h1]
  by_cases h2 : x.val - 128 - 128 < 128
  · rw [dif_pos h2]
    exact (h r _).2.2.1.trans (congrArg (rowsIn x0 r) (Fin.ext (by show 2 * 128 + (x.val - 128 - 128) = x.val; omega)))
  rw [dif_neg h2]
  by_cases h3 : x.val - 128 - 128 - 128 < 128
  · rw [dif_pos h3]
    exact (h r _).2.2.2.1.trans (congrArg (rowsIn x0 r) (Fin.ext (by show 3 * 128 + (x.val - 128 - 128 - 128) = x.val; omega)))
  rw [dif_neg h3]
  by_cases h4 : x.val - 128 - 128 - 128 - 128 < 128
  · rw [dif_pos h4]
    exact (h r _).2.2.2.2.1.trans (congrArg (rowsIn x0 r) (Fin.ext (by show 4 * 128 + (x.val - 128 - 128 - 128 - 128) = x.val; omega)))
  rw [dif_neg h4]
  by_cases h5 : x.val - 128 - 128 - 128 - 128 - 128 < 128
  · rw [dif_pos h5]
    exact (h r _).2.2.2.2.2.1.trans (congrArg (rowsIn x0 r) (Fin.ext (by show 5 * 128 + (x.val - 128 - 128 - 128 - 128 - 128) = x.val; omega)))
  rw [dif_neg h5]
  by_cases h6 : x.val - 128 - 128 - 128 - 128 - 128 - 128 < 128
  · rw [dif_pos h6]
    exact (h r _).2.2.2.2.2.2.1.trans (congrArg (rowsIn x0 r) (Fin.ext (by show 6 * 128 + (x.val - 128 - 128 - 128 - 128 - 128 - 128) = x.val; omega)))
  rw [dif_neg h6]
  exact (h r _).2.2.2.2.2.2.2.trans (congrArg (rowsIn x0 r) (Fin.ext (by show 7 * 128 + (x.val - 128 - 128 - 128 - 128 - 128 - 128 - 128) = x.val; omega)))

section Rows
variable (x0 : Vec Ideal S4096x128 .f32) (w1 : Vec Ideal S1024x2048 .bf16) (x2 : Vec Ideal S1x1x1x2048 .f32)

/-- The first product of a block's row. -/
def hidOf (r : Fin 512) : Fin 2048 → EReal :=
  hid (rowsIn x0 r) (fun k f => (show FVec Ideal S1024x2048 .bf16 from w1) (ix2 k f)) (fun f => (show FVec Ideal S1x1x1x2048 .f32 from x2) (ix4 0 0 0 f))

theorem gate_at (r : Fin 512) (f : Fin 1024) : gate x0 w1 x2 (ix2 r f) = gateOf (hidOf x0 w1 x2 r) f := by
  refine (by pointwise [gate, k0_pay7] : gate x0 w1 x2 (ix2 r f)
    = min ((k0_pay6 (slab x0 (⟨![0, 0], S512x128.size, ![8, 1], inb_S4096x128_S512x128_0_0_s_8_1⟩ : LoadRect S4096x128)) (slab x0 (⟨![1, 0], S512x128.size, ![8, 1], inb_S4096x128_S512x128_1_0_s_8_1⟩ : LoadRect S4096x128)) (slab x0 (⟨![2, 0], S512x128.size, ![8, 1], inb_S4096x128_S512x128_2_0_s_8_1⟩ : LoadRect S4096x128)) (slab x0 (⟨![3, 0], S512x128.size, ![8, 1], inb_S4096x128_S512x128_3_0_s_8_1⟩ : LoadRect S4096x128)) (slab x0 (⟨![4, 0], S512x128.size, ![8, 1], inb_S4096x128_S512x128_4_0_s_8_1⟩ : LoadRect S4096x128)) (slab x0 (⟨![5, 0], S512x128.size, ![8, 1], inb_S4096x128_S512x128_5_0_s_8_1⟩ : LoadRect S4096x128)) (slab x0 (⟨![6, 0], S512x128.size, ![8, 1], inb_S4096x128_S512x128_6_0_s_8_1⟩ : LoadRect S4096x128)) (slab x0 (⟨![7, 0], S512x128.size, ![8, 1], inb_S4096x128_S512x128_7_0_s_8_1⟩ : LoadRect S4096x128)) w1 x2 : FVec Ideal S512x2048 .f32) (ix2 r ⟨f.val, by omega⟩)) (Ideal.ofBits .f32 0x40E00000#32)).trans ?_
  exact congrArg (min · _) (pay6_at x0 _ _ _ _ _ _ _ _ w1 x2 (fun r l => ⟨slab_at x0 0 (by decide) _ r l, slab_at x0 1 (by decide) _ r l, slab_at x0 2 (by decide) _ r l,
    slab_at x0 3 (by decide) _ r l, slab_at x0 4 (by decide) _ r l, slab_at x0 5 (by decide) _ r l, slab_at x0 6 (by decide) _ r l, slab_at x0 7 (by decide) _ r l⟩) r _)

theorem lin_at (r : Fin 512) (f : Fin 1024) : lin x0 w1 x2 (ix2 r f) = upOf (hidOf x0 w1 x2 r) f := by
  refine (by pointwise [lin, k0_pay8] : lin x0 w1 x2 (ix2 r f)
    = min (Ideal.ofBits .f32 0x40E00000#32) (max (Ideal.ofBits .f32 0xC0E00000#32) ((k0_pay6 (slab x0 (⟨![0, 0], S512x128.size, ![8, 1], inb_S4096x128_S512x128_0_0_s_8_1⟩ : LoadRect S4096x128)) (slab x0 (⟨![1, 0], S512x128.size, ![8, 1], inb_S4096x128_S512x128_1_0_s_8_1⟩ : LoadRect S4096x128)) (slab x0 (⟨![2, 0], S512x128.size, ![8, 1], inb_S4096x128_S512x128_2_0_s_8_1⟩ : LoadRect S4096x128)) (slab x0 (⟨![3, 0], S512x128.size, ![8, 1], inb_S4096x128_S512x128_3_0_s_8_1⟩ : LoadRect S4096x128)) (slab x0 (⟨![4, 0], S512x128.size, ![8, 1], inb_S4096x128_S512x128_4_0_s_8_1⟩ : LoadRect S4096x128)) (slab x0 (⟨![5, 0], S512x128.size, ![8, 1], inb_S4096x128_S512x128_5_0_s_8_1⟩ : LoadRect S4096x128)) (slab x0 (⟨![6, 0], S512x128.size, ![8, 1], inb_S4096x128_S512x128_6_0_s_8_1⟩ : LoadRect S4096x128)) (slab x0 (⟨![7, 0], S512x128.size, ![8, 1], inb_S4096x128_S512x128_7_0_s_8_1⟩ : LoadRect S4096x128)) w1 x2 : FVec Ideal S512x2048 .f32) (ix2 r ⟨1024 + f.val, by omega⟩)))).trans ?_
  exact congrArg (fun z => min _ (max _ z)) (pay6_at x0 _ _ _ _ _ _ _ _ w1 x2 (fun r l => ⟨slab_at x0 0 (by decide) _ r l, slab_at x0 1 (by decide) _ r l, slab_at x0 2 (by decide) _ r l,
    slab_at x0 3 (by decide) _ r l, slab_at x0 4 (by decide) _ r l, slab_at x0 5 (by decide) _ r l, slab_at x0 6 (by decide) _ r l, slab_at x0 7 (by decide) _ r l⟩) r _)

theorem rowsOut_at (w2 : Vec Ideal S1024x1024 .bf16) (x4 : Vec Ideal S1x1x1x1024 .f32) (r : Fin 512) (d : Fin 1024) :
    rowsOut x0 w1 x2 w2 x4 (ix2 r d)
      = expertRow (rowsIn x0 r) (fun k f => (show FVec Ideal S1024x2048 .bf16 from w1) (ix2 k f)) (fun f => (show FVec Ideal S1x1x1x2048 .f32 from x2) (ix4 0 0 0 f))
          (fun f d => (show FVec Ideal S1024x1024 .bf16 from w2) (ix2 f d)) (fun d => (show FVec Ideal S1x1x1x1024 .f32 from x4) (ix4 0 0 0 d)) d := by
  refine (pay10_at (gate x0 w1 x2) (lin x0 w1 x2) w2 x4 r d).trans (congrArg (· + _) (Finset.sum_congr rfl fun f _ => ?_))
  rw [gate_at, lin_at]
  rfl

end Rows

end Cert.Moe

end
-- ==== Proof.MoeRef.lean ====
/- The reference of the experts' call at an index. -/
module

public import proofs.«01_k».proof.Proof.MoeRow
public import proofs.«01_k».proof.Proof.Gen.Reference2Ideal.Run
public import Idealize.ShloMosaic.Lib.Pointwise
public import Idealize.ShloMosaic.Lib.Routing.Ops

@[expose] public section

set_option maxRecDepth 16384

noncomputable section

namespace Cert.Moe.Ref

open Idealize.ShloMosaic Idealize.ShloMosaic.TcCoe Idealize.SL.Sem
open Cert.Reference2Ideal Cert.Reference2Ideal.Gen

/-! ## A matrix taken by its number -/

section Gather
variable {α : Type} {N A B n : ℕ}

abbrev matDims (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- `table[idx]` over the matrices of a table: where `idx` holds the number `e`, the result's matrix is the table's matrix `e`. -/
theorem gather_mat (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (a : Fin A) (b : Fin B) (e : Fin N)
    (he : (idx (ix2 c (0 : Fin 1))).toInt = e.val) :
    Host.gather (matDims wf) x idx (ix3 c a b) = x (ix3 e a b) := by
  unfold Host.gather
  refine congrArg x (funext fun k => Fin.ext ?_)
  show (matDims wf).start (ix3 c a b) idx k + (matDims wf).batchCoord (ix3 c a b) k + (matDims wf).offCoord (ix3 c a b) k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (matDims wf).startIndexMap from List.mem_singleton.mpr rfl)]
    have hsi : (matDims wf).siIdx (ix3 c a b) ⟨List.idxOf (⟨0, by decide⟩ : Fin 3) (matDims wf).startIndexMap,
        List.idxOf_lt_length_iff.2 (List.mem_singleton.mpr rfl)⟩ = ix2 c (0 : Fin 1) := by
      funext z; refine Fin.ext ?_
      match z with
      | ⟨0, _⟩ => rfl
      | ⟨1, _⟩ => rfl
    rw [hsi, he]
    have := e.isLt
    show min ((e.val : Int)).toNat (N - 1) + 0 = e.val
    omega
  | ⟨1, _⟩ =>
    have h0 : (matDims wf).start (ix3 c a b) idx 1 = 0 := by
      unfold GatherDims.start
      exact dif_neg (show (1 : Fin 3) ∉ [(0 : Fin 3)] from by decide)
    have h1 : (matDims wf).offCoord (ix3 c a b) 1 = a.val := by
      unfold GatherDims.offCoord
      rw [dif_pos ((GatherDims.mem_sKept _ _).mpr ⟨(by decide : (1 : Fin 3) ∉ [(0 : Fin 3)]), List.not_mem_nil⟩)]
      rfl
    exact (congrArg₂ (· + ·) h0 h1).trans (Nat.zero_add _)
  | ⟨2, _⟩ =>
    have h0 : (matDims wf).start (ix3 c a b) idx 2 = 0 := by
      unfold GatherDims.start
      exact dif_neg (show (2 : Fin 3) ∉ [(0 : Fin 3)] from by decide)
    have h1 : (matDims wf).offCoord (ix3 c a b) 2 = b.val := by
      unfold GatherDims.offCoord
      rw [dif_pos ((GatherDims.mem_sKept _ _).mpr ⟨(by decide : (2 : Fin 3) ∉ [(0 : Fin 3)]), List.not_mem_nil⟩)]
      rfl
    exact (congrArg₂ (· + ·) h0 h1).trans (Nat.zero_add _)

end Gather

/-! ## The stages -/

/-- The sorted rows, by block. -/
def xb (x : FVec Ideal S163840x1024 .f32) : FVec Ideal S320x512x1024 .f32 := shapeCast _ x shapeCasts_S163840x1024_S320x512x1024

/-- The experts' numbers, as an index: a negative one counts from the end. -/
def numbers (e : IVec S320 32) : IVec S320x1 32 :=
  broadcastInDim S320x1 ![0] bcast_S320_S320x1_0 (select (cmpi .slt e (broadcastInDim S320 ![] bcast_S_S320 (constantI S_ 32 0#32)))
    (addi e (broadcastInDim S320 ![] bcast_S_S320 (constantI S_ 32 32#32))) e)

/-- The layer's weights and biases. -/
def w1 (w : FVec Ideal S2x32x1024x2048 .f32) : FVec Ideal S32x1024x2048 .f32 :=
  shapeCast _ (extractStridedSlice S1x32x1024x2048 ![1, 0, 0, 0] w slices_S2x32x1024x2048_S1x32x1024x2048_1_0_0_0) shapeCasts_S1x32x1024x2048_S32x1024x2048
def b1 (b : FVec Ideal S2x32x2048 .f32) : FVec Ideal S32x2048 .f32 :=
  shapeCast _ (extractStridedSlice S1x32x2048 ![1, 0, 0] b slices_S2x32x2048_S1x32x2048_1_0_0) shapeCasts_S1x32x2048_S32x2048
def w2 (w : FVec Ideal S2x32x1024x1024 .f32) : FVec Ideal S32x1024x1024 .f32 :=
  shapeCast _ (extractStridedSlice S1x32x1024x1024 ![1, 0, 0, 0] w slices_S2x32x1024x1024_S1x32x1024x1024_1_0_0_0) shapeCasts_S1x32x1024x1024_S32x1024x1024
def b2 (b : FVec Ideal S2x32x1024 .f32) : FVec Ideal S32x1024 .f32 :=
  shapeCast _ (extractStridedSlice S1x32x1024 ![1, 0, 0] b slices_S2x32x1024_S1x32x1024_1_0_0) shapeCasts_S1x32x1024_S32x1024

/-- The weights and biases of each block's expert, from the layer's. -/
def w1Of (w : FVec Ideal S32x1024x2048 .f32) (e : IVec S320 32) : FVec Ideal S320x1024x2048 .f32 :=
  Host.gather gather_S32x1024x2048_S320x1_S320x1024x2048_12_0_n_n_0_1_110242048 w (numbers e)
def b1Of (b : FVec Ideal S32x2048 .f32) (e : IVec S320 32) : FVec Ideal S320x2048 .f32 :=
  Host.gather gather_S32x2048_S320x1_S320x2048_1_0_n_n_0_1_12048 b (numbers e)
def w2Of (w : FVec Ideal S32x1024x1024 .f32) (e : IVec S320 32) : FVec Ideal S320x1024x1024 .f32 :=
  Host.gather gather_S32x1024x1024_S320x1_S320x1024x1024_12_0_n_n_0_1_110241024 w (numbers e)
def b2Of (b : FVec Ideal S32x1024 .f32) (e : IVec S320 32) : FVec Ideal S320x1024 .f32 :=
  Host.gather gather_S32x1024_S320x1_S320x1024_1_0_n_n_0_1_11024 b (numbers e)

/-- The first product and its bias. -/
def first (x : FVec Ideal S320x512x1024 .f32) (w : FVec Ideal S320x1024x2048 .f32) (b : FVec Ideal S320x2048 .f32) : FVec Ideal S320x512x2048 .f32 :=
  addf (Host.dotGeneral dot_S320x512x1024_S320x1024x2048_S320x512x2048_2_1_1_2_0_0 none x w)
    (broadcastInDim S320x512x2048 ![0, 1, 2] bcast_S320x1x2048_S320x512x2048_0_1_2 (broadcastInDim S320x1x2048 ![0, 2] bcast_S320x2048_S320x1x2048_0_2 b))

def gate (h : FVec Ideal S320x512x2048 .f32) : FVec Ideal S320x512x1024 .f32 :=
  minimumf (extractStridedSlice S320x512x1024 ![0, 0, 0] h slices_S320x512x2048_S320x512x1024_0_0_0)
    (broadcastInDim S320x512x1024 ![] bcast_S_S320x512x1024 (constant S_ .f32 0x40E00000#32))

def up (h : FVec Ideal S320x512x2048 .f32) : FVec Ideal S320x512x1024 .f32 :=
  minimumf (broadcastInDim S320x512x1024 ![] bcast_S_S320x512x1024 (id (constant S_ .f32 0x40E00000#32)))
    (maximumf (broadcastInDim S320x512x1024 ![] bcast_S_S320x512x1024 (id (constant S_ .f32 0xC0E00000#32)))
      (extractStridedSlice S320x512x1024 ![0, 0, 1024] h slices_S320x512x2048_S320x512x1024_0_0_1024))

def act (g u : FVec Ideal S320x512x1024 .f32) : FVec Ideal S320x512x1024 .f32 :=
  mulf (addf u (broadcastInDim S320x512x1024 ![] bcast_S_S320x512x1024 (constant S_ .f32 0x3F800000#32)))
    (mulf g (Host.divf (broadcastInDim S320x512x1024 ![] bcast_S_S320x512x1024 (constant S_ .f32 0x3F800000#32))
      (addf (broadcastInDim S320x512x1024 ![] bcast_S_S320x512x1024 (constant S_ .f32 0x3F800000#32))
        (Host.exp (Host.negf (mulf (broadcastInDim S320x512x1024 ![] bcast_S_S320x512x1024 (constant S_ .f32 0x3FD9DB23#32)) g))))))

/-- The second product and its bias. -/
def second (a : FVec Ideal S320x512x1024 .f32) (w : FVec Ideal S320x1024x1024 .f32) (b : FVec Ideal S320x1024 .f32) : FVec Ideal S320x512x1024 .f32 :=
  addf (Host.dotGeneral dot_S320x512x1024_S320x1024x1024_S320x512x1024_2_1_1_2_0_0 none a w)
    (broadcastInDim S320x512x1024 ![0, 1, 2] bcast_S320x1x1024_S320x512x1024_0_1_2 (broadcastInDim S320x1x1024 ![0, 2] bcast_S320x1024_S320x1x1024_0_2 b))

/-- The used blocks' rows; zero elsewhere. -/
def masked (n : IVec S1 32) (y : FVec Ideal S320x512x1024 .f32) : FVec Ideal S320x512x1024 .f32 :=
  select (broadcastInDim S320x512x1024 ![0, 1, 2] bcast_S320x1x1_S320x512x1024_0_1_2 (broadcastInDim S320x1x1 ![0] bcast_S320_S320x1x1_0
      (cmpi .slt (iotaInDim S320 32 0) (broadcastInDim S320 ![0] bcast_S1_S320_0 n))))
    y (broadcastInDim S320x512x1024 ![] bcast_S_S320x512x1024 (id (constant S_ .f32 0x00000000#32)))

def rows (x : FVec Ideal S163840x1024 .f32) (e : IVec S320 32) (wi : FVec Ideal S32x1024x2048 .f32) (bi : FVec Ideal S32x2048 .f32)
    (wo : FVec Ideal S32x1024x1024 .f32) (bo : FVec Ideal S32x1024 .f32) : FVec Ideal S320x512x1024 .f32 :=
  second (act (gate (first (xb x) (w1Of wi e) (b1Of bi e))) (up (first (xb x) (w1Of wi e) (b1Of bi e)))) (w2Of wo e) (b2Of bo e)

def result (x : FVec Ideal S163840x1024 .f32) (e : IVec S320 32) (n : IVec S1 32) (wi : FVec Ideal S32x1024x2048 .f32) (bi : FVec Ideal S32x2048 .f32)
    (wo : FVec Ideal S32x1024x1024 .f32) (bo : FVec Ideal S32x1024 .f32) : FVec Ideal S1310720x128 .f32 :=
  shapeCast _ (masked n (rows x e wi bi wo bo)) shapeCasts_S320x512x1024_S1310720x128

theorem result_eq (m : (ℓ : Loc nD τ sig) → Buf (Elt Ideal) ℓ) (c : Dev nD) :
    Cert.Reference2Ideal.Value.res_main_v67 m c
      = result (m ((c.tc : Thread nD τ).loc main_arg0)) (m ((c.tc : Thread nD τ).loc main_arg1)) (m ((c.tc : Thread nD τ).loc main_arg2))
          (w1 (m ((c.tc : Thread nD τ).loc main_arg3))) (b1 (m ((c.tc : Thread nD τ).loc main_arg4))) (w2 (m ((c.tc : Thread nD τ).loc main_arg5)))
          (b2 (m ((c.tc : Thread nD τ).loc main_arg6))) := by
  unfold Cert.Reference2Ideal.Value.res_main_v67 result rows masked second act up gate first w1Of b1Of w2Of b2Of w1 b1 w2 b2 xb numbers
  congr 1

/-! ## Each stage at an index -/

theorem xb_at (x) (t : Fin 320) (r : Fin 512) (k : Fin 1024) : xb x (ix3 t r k) = x (ix2 ⟨t.val * 512 + r.val, by omega⟩ k) := by
  pointwise [xb]

theorem numbers_at (e : IVec S320 32) (t : Fin 320) (h : (e (ix1 t)).toNat < 32) : numbers e (ix2 t 0) = e (ix1 t) := by
  have hs : ∀ w : BitVec 32, w.toNat < 32 → IntOp.cmpi .slt w 0#32 = 0#1 := by
    intro w hw
    rw [WordCmp.cmpi_slt_eq, WordCmp.ofBool_decide_eq_zero_iff, WordCmp.toInt_eq_toNat_of_lt_half (by omega)]
    have e0 : (0#32 : BitVec 32).toInt = 0 := by decide
    omega
  pointwise [numbers]
  rw [hs _ h]
  rfl

theorem first_at (x w b) (t : Fin 320) (r : Fin 512) (f : Fin 2048) :
    first x w b (ix3 t r f) = hid (fun k => x (ix3 t r k)) (fun k f => w (ix3 t k f)) (fun f => b (ix2 t f)) f := by
  pointwise [first, hid]

theorem gate_at (h) (t : Fin 320) (r : Fin 512) (f : Fin 1024) : gate h (ix3 t r f) = gateOf (fun f => h (ix3 t r f)) f := by
  pointwise [gate, gateOf]

theorem up_at (h) (t : Fin 320) (r : Fin 512) (f : Fin 1024) : up h (ix3 t r f) = upOf (fun f => h (ix3 t r f)) f := by
  pointwise [up, upOf]
  rfl

theorem act_at (g u) (t : Fin 320) (r : Fin 512) (f : Fin 1024) : act g u (ix3 t r f) = actOf (g (ix3 t r f)) (u (ix3 t r f)) := by
  pointwise [act, actOf]

theorem second_at (a w b) (t : Fin 320) (r : Fin 512) (d : Fin 1024) :
    second a w b (ix3 t r d) = (∑ f : Fin 1024, a (ix3 t r f) * w (ix3 t f d)) + b (ix2 t d) := by
  pointwise [second]

theorem w1_at (w) (e : Fin 32) (k : Fin 1024) (f : Fin 2048) : w1 w (ix3 e k f) = w (ix4 1 e k f) := by pointwise [w1]
theorem b1_at (b) (e : Fin 32) (f : Fin 2048) : b1 b (ix2 e f) = b (ix3 1 e f) := by pointwise [b1]
theorem w2_at (w) (e : Fin 32) (f : Fin 1024) (d : Fin 1024) : w2 w (ix3 e f d) = w (ix4 1 e f d) := by pointwise [w2]
theorem b2_at (b) (e : Fin 32) (d : Fin 1024) : b2 b (ix2 e d) = b (ix3 1 e d) := by pointwise [b2]

theorem masked_at (n : IVec S1 32) (y) (t : Fin 320) (r : Fin 512) (d : Fin 1024) :
    masked n y (ix3 t r d) = if (BitVec.ofNat 32 t.val).slt (n (ix1 0)) = true then y (ix3 t r d) else 0 := by
  have hs : IntOp.cmpi .slt (BitVec.ofNat 32 t.val) (n (ix1 0)) = BitVec.ofBool ((BitVec.ofNat 32 t.val).slt (n (ix1 0))) := rfl
  pointwise [masked]
  rw [hs]
  cases (BitVec.ofNat 32 t.val).slt (n (ix1 0))
  · exact Ideal.ofBits_zero .f32
  · rfl

/-! ## The result -/

section Result
variable (x : FVec Ideal S163840x1024 .f32) (e : IVec S320 32) (n : IVec S1 32) (wi : FVec Ideal S32x1024x2048 .f32) (bi : FVec Ideal S32x2048 .f32)
    (wo : FVec Ideal S32x1024x1024 .f32) (bo : FVec Ideal S32x1024 .f32) (t : Fin 320) (h : (e (ix1 t)).toNat < 32)

theorem number (t : Fin 320) (h : (e (ix1 t)).toNat < 32) : (numbers e (ix2 t (0 : Fin 1))).toInt = ((⟨(e (ix1 t)).toNat, h⟩ : Fin 32) : ℕ) := by
  rw [numbers_at e t h]
  exact WordCmp.toInt_eq_toNat_of_lt_half (by omega)

theorem number_word (t : Fin 320) (h : (e (ix1 t)).toNat < 32) : numbers e (ix2 t (0 : Fin 1)) = BitVec.ofNat 32 (⟨(e (ix1 t)).toNat, h⟩ : Fin 32).val := by
  rw [numbers_at e t h]
  exact (BitVec.eq_of_toNat_eq (by rw [BitVec.toNat_ofNat]; exact Nat.mod_eq_of_lt (e (ix1 t)).isLt)).symm

include h

theorem w1Of_at (k : Fin 1024) (f : Fin 2048) : w1Of wi e (ix3 t k f) = wi (ix3 ⟨(e (ix1 t)).toNat, h⟩ k f) :=
  (gather_mat gather_S32x1024x2048_S320x1_S320x1024x2048_12_0_n_n_0_1_110242048.wf wi (numbers e) t k f ⟨_, h⟩ (number e t h))

theorem w2Of_at (f : Fin 1024) (d : Fin 1024) : w2Of wo e (ix3 t f d) = wo (ix3 ⟨(e (ix1 t)).toNat, h⟩ f d) :=
  (gather_mat gather_S32x1024x1024_S320x1_S320x1024x1024_12_0_n_n_0_1_110241024.wf wo (numbers e) t f d ⟨_, h⟩ (number e t h))

theorem b1Of_at (f : Fin 2048) : b1Of bi e (ix2 t f) = bi (ix2 ⟨(e (ix1 t)).toNat, h⟩ f) :=
  (Routing.gather_row _ rfl rfl rfl rfl rfl bi (numbers e) t f ⟨_, h⟩ (number_word e t h) (by decide))

theorem b2Of_at (d : Fin 1024) : b2Of bo e (ix2 t d) = bo (ix2 ⟨(e (ix1 t)).toNat, h⟩ d) :=
  (Routing.gather_row _ rfl rfl rfl rfl rfl bo (numbers e) t d ⟨_, h⟩ (number_word e t h) (by decide))

theorem rows_at (r : Fin 512) (d : Fin 1024) :
    rows x e wi bi wo bo (ix3 t r d)
      = expertRow (fun k => x (ix2 ⟨t.val * 512 + r.val, by omega⟩ k)) (fun k f => wi (ix3 ⟨(e (ix1 t)).toNat, h⟩ k f)) (fun f => bi (ix2 ⟨(e (ix1 t)).toNat, h⟩ f))
          (fun f d => wo (ix3 ⟨(e (ix1 t)).toNat, h⟩ f d)) (fun d => bo (ix2 ⟨(e (ix1 t)).toNat, h⟩ d)) d := by
  have hf : ∀ f, first (xb x) (w1Of wi e) (b1Of bi e) (ix3 t r f) = hid (fun k => x (ix2 ⟨t.val * 512 + r.val, by omega⟩ k)) (fun k f => wi (ix3 ⟨(e (ix1 t)).toNat, h⟩ k f))
      (fun f => bi (ix2 ⟨(e (ix1 t)).toNat, h⟩ f)) f := by
    intro f
    rw [first_at]
    simp only [xb_at, w1Of_at _ _ _ h, b1Of_at _ _ _ h]
  unfold rows
  rw [second_at]
  simp only [act_at, gate_at, up_at, hf, w2Of_at _ _ _ h, b2Of_at _ _ _ h]
  rfl

end Result

theorem result_at (x e n wi bi wo bo) (q : Fin 1310720) (l : Fin 128) (t : Fin 320) (r : Fin 512) (d : Fin 1024)
    (hq : q.val = t.val * 4096 + r.val * 8 + d.val / 128) (hl : l.val = d.val % 128) :
    result x e n wi bi wo bo (ix2 q l) = masked n (rows x e wi bi wo bo) (ix3 t r d) := by
  unfold result
  refine shapeCast_apply _ _ _ (ix3 t r d) ?_
  rw [Shape.rowMajor_val_three, Shape.rowMajor_val_two]
  show (t.val * 512 + r.val) * 1024 + d.val = q.val * 128 + l.val
  omega

end Cert.Moe.Ref

end
-- ==== Proof.MoeFinal.lean ====
/- The experts' array after the run is the reference's. -/
module

public import proofs.«01_k».proof.Proof.MoePre
public import proofs.«01_k».proof.Proof.MoeRef
public import proofs.«01_k».proof.Defs
public import Idealize.ShloMosaic.Lib.Claim
public import Idealize.ShloMosaic.Lib.Pipeline.Covers
public import Idealize.ShloMosaic.Lib.Pipeline.ValueKit

@[expose] public section

set_option maxRecDepth 16384

noncomputable section

namespace Cert.Moe

open Idealize.ShloMosaic Idealize.ShloMosaic.TcCoe Idealize.SL.Sem
open Cert.Kernel2Ideal Cert.Kernel2Ideal.Gen

variable (m : (ℓ : Loc nD τ sig) → Buf (Elt Ideal) ℓ) (hO : Ok m) (c : Dev nD)

/-! ## The arguments, and the arrays made of them -/

abbrev xIn : FVec Ideal S163840x1024 .f32 := m ((c.tc : Thread nD τ).loc main_arg0)
abbrev eIn : IVec S320 32 := m ((c.tc : Thread nD τ).loc main_arg1)
abbrev nIn : IVec S1 32 := m ((c.tc : Thread nD τ).loc main_arg2)
abbrev wiIn : FVec Ideal S2x32x1024x2048 .f32 := m ((c.tc : Thread nD τ).loc main_arg3)
abbrev biIn : FVec Ideal S2x32x2048 .f32 := m ((c.tc : Thread nD τ).loc main_arg4)
abbrev woIn : FVec Ideal S2x32x1024x1024 .f32 := m ((c.tc : Thread nD τ).loc main_arg5)
abbrev boIn : FVec Ideal S2x32x1024 .f32 := m ((c.tc : Thread nD τ).loc main_arg6)

theorem xArr_at (q : Fin 1310720) (l : Fin 128) :
    (show FVec Ideal S1310720x128 .f32 from V m c main_v0) (ix2 q l) = xIn m c (ix2 ⟨q.val / 8, by omega⟩ ⟨(q.val % 8) * 128 + l.val, by omega⟩) := by
  have e : (show FVec Ideal S1310720x128 .f32 from V m c main_v0) = shapeCast _ (xIn m c) shapeCasts_S163840x1024_S1310720x128 := by
    entry_read
    rfl
  rw [e]
  refine shapeCast_apply _ _ _ _ ?_
  rw [Shape.rowMajor_val_two, Shape.rowMajor_val_two]
  show q.val / 8 * 1024 + ((q.val % 8) * 128 + l.val) = q.val * 128 + l.val
  omega

theorem biArr_at (e : Fin 32) (f : Fin 2048) :
    (show FVec Ideal S2x32x1x2048 .f32 from V m c main_v1) (ix4 1 e 0 f) = biIn m c (ix3 1 e f) := by
  have h : (show FVec Ideal S2x32x1x2048 .f32 from V m c main_v1) = shapeCast _ (biIn m c) shapeCasts_S2x32x2048_S2x32x1x2048 := by
    entry_read
    rfl
  rw [h]
  pointwise []

theorem boArr_at (e : Fin 32) (d : Fin 1024) :
    (show FVec Ideal S2x32x1x1024 .f32 from V m c main_v2) (ix4 1 e 0 d) = boIn m c (ix3 1 e d) := by
  have h : (show FVec Ideal S2x32x1x1024 .f32 from V m c main_v2) = shapeCast _ (boIn m c) shapeCasts_S2x32x1024_S2x32x1x1024 := by
    entry_read
    rfl
  rw [h]
  pointwise []

/-! ## A block's operands -/

section Block
variable (t : Fin (cfgM m hO).N) (h : t.val < 320)

theorem rowsIn_at (r : Fin 512) (k : Fin 1024) : rowsIn (iblk m hO c 0 t) r k = xIn m c (ix2 ⟨t.val * 512 + r.val, by omega⟩ k) := by
  unfold rowsIn
  refine (iblk0_eq m hO c t h _).trans ((xArr_at m c _ _).trans (congrArg (xIn m c) (funext fun a => Fin.ext ?_)))
  match a with
  | ⟨0, _⟩ => show (t.val * 4096 + (r.val * 8 + k.val / 128)) / 8 = t.val * 512 + r.val; omega
  | ⟨1, _⟩ => show (t.val * 4096 + (r.val * 8 + k.val / 128)) % 8 * 128 + k.val % 128 = k.val; omega

theorem wi_at (k : Fin 1024) (f : Fin 2048) :
    (k0_pay1 (iblk m hO c 1 t) : FVec Ideal S1024x2048 .bf16) (ix2 k f) = wiIn m c (ix4 1 (expert m hO ⟨t.val, h⟩) k f) :=
  (pay1_at _ k f).trans ((iblk1_eq m hO c t h _).trans (congrFun (V_of m c main_arg3 ⟨by decide, by decide, by decide⟩) _))

theorem wo_at (f : Fin 1024) (d : Fin 1024) :
    (k0_pay2 (iblk m hO c 3 t) : FVec Ideal S1024x1024 .bf16) (ix2 f d) = woIn m c (ix4 1 (expert m hO ⟨t.val, h⟩) f d) :=
  (pay2_at _ f d).trans ((iblk3_eq m hO c t h _).trans (congrFun (V_of m c main_arg5 ⟨by decide, by decide, by decide⟩) _))

theorem bi_at (f : Fin 2048) : (show FVec Ideal S1x1x1x2048 .f32 from iblk m hO c 2 t) (ix4 0 0 0 f) = biIn m c (ix3 1 (expert m hO ⟨t.val, h⟩) f) :=
  (iblk2_eq m hO c t h _).trans (biArr_at m c _ f)

theorem bo_at (d : Fin 1024) : (show FVec Ideal S1x1x1x1024 .f32 from iblk m hO c 4 t) (ix4 0 0 0 d) = boIn m c (ix3 1 (expert m hO ⟨t.val, h⟩) d) :=
  (iblk4_eq m hO c t h _).trans (boArr_at m c _ d)

theorem count_eq : cnt c (tbl m 1) = nIn m c (ix1 0) := by
  obtain rfl : c = 0 := Subsingleton.elim _ _
  rw [tbl_1]
  refine congrArg (nIn m 0) (funext fun a => Fin.ext ?_)
  match a with
  | ⟨0, _⟩ => rfl

theorem word_eq : at320 (tbl m 0) t.val h = eIn m c (ix1 ⟨t.val, h⟩) := by
  obtain rfl : c = 0 := Subsingleton.elim _ _
  rw [tbl_0]
  refine congrArg (eIn m 0) (funext fun a => Fin.ext ?_)
  match a with
  | ⟨0, _⟩ => rfl

/-- The reference's result of the kernel's arguments. -/
abbrev refOut : FVec Ideal S1310720x128 .f32 :=
  Ref.result (xIn m c) (eIn m c) (nIn m c) (Ref.w1 (wiIn m c)) (Ref.b1 (biIn m c)) (Ref.w2 (woIn m c)) (Ref.b2 (boIn m c))

theorem row_at (he : (eIn m c (ix1 ⟨t.val, h⟩)).toNat < 32) (r : Fin 512) (d : Fin 1024) :
    rowsOut (iblk m hO c 0 t) (k0_pay1 (iblk m hO c 1 t)) (iblk m hO c 2 t) (k0_pay2 (iblk m hO c 3 t)) (iblk m hO c 4 t) (ix2 r d)
      = Ref.rows (xIn m c) (eIn m c) (Ref.w1 (wiIn m c)) (Ref.b1 (biIn m c)) (Ref.w2 (woIn m c)) (Ref.b2 (boIn m c)) (ix3 ⟨t.val, h⟩ r d) := by
  have ex : expert m hO ⟨t.val, h⟩ = ⟨(eIn m c (ix1 ⟨t.val, h⟩)).toNat, he⟩ := Fin.ext (show (at320 (tbl m 0) t.val h).toNat = _ from congrArg BitVec.toNat (word_eq m hO c t h))
  refine (rowsOut_at _ _ _ _ _ r d).trans (Eq.trans ?_ (Ref.rows_at _ _ _ _ _ _ ⟨t.val, h⟩ he r d).symm)
  rw [← ex]
  have e0 := funext (rowsIn_at m hO c t h r)
  have e1 := funext fun k => funext fun f => (wi_at m hO c t h k f).trans (Ref.w1_at _ _ k f).symm
  have e2 := funext fun f => (bi_at m hO c t h f).trans (Ref.b1_at _ _ f).symm
  have e3 := funext fun f => funext fun d => (wo_at m hO c t h f d).trans (Ref.w2_at _ _ f d).symm
  have e4 := funext fun d => (bo_at m hO c t h d).trans (Ref.b2_at _ _ d).symm
  exact congr (congr (congr (congr (congr (congrArg expertRow e0) e1) e2) e3) e4) rfl

theorem point (a : Fin 4096) (b : Fin 128) :
    outBlk m hO c t (ix2 a b) = refOut m c (ix2 ⟨t.val * 4096 + a.val, by omega⟩ b) := by
  have he : (eIn m c (ix1 ⟨t.val, h⟩)).toNat < 32 := lt_of_eq_of_lt (congrArg BitVec.toNat (word_eq m hO c t h).symm) (word_lt m hO ⟨t.val, h⟩)
  refine Eq.trans ?_ ((Ref.result_at _ _ _ _ _ _ _ _ _ ⟨t.val, h⟩ ⟨a.val / 8, by omega⟩ ⟨128 * (a.val % 8) + b.val, by omega⟩
    (by show t.val * 4096 + a.val = t.val * 4096 + a.val / 8 * 8 + (128 * (a.val % 8) + b.val) / 128; omega)
    (by show b.val = (128 * (a.val % 8) + b.val) % 128; omega)).trans (Ref.masked_at _ _ _ _ _)).symm
  unfold outBlk blockOut
  have hc : ((grid0.coords t) 0).val = t.val := coords_val t
  have hu : Used (grid0.coords t) (cnt c (tbl m 1)) ↔ (BitVec.ofNat 32 t.val).slt (nIn m c (ix1 0)) = true := by
    unfold Used
    rw [count_eq, hc]
  by_cases u : (BitVec.ofNat 32 t.val).slt (nIn m c (ix1 0)) = true
  · rw [if_pos (hu.2 u), if_pos u]
    refine Eq.trans ?_ (row_at m hO c t h he _ _)
    refine congrArg (rowsOut (iblk m hO c 0 t) (k0_pay1 (iblk m hO c 1 t)) (iblk m hO c 2 t) (k0_pay2 (iblk m hO c 3 t)) (iblk m hO c 4 t)) (funext fun a => ?_)
    match a with
    | ⟨0, _⟩ => rfl
    | ⟨1, _⟩ => rfl
  · rw [if_neg (fun z => u (hu.1 z)), if_neg u]
    pointwise [k0_pay5]

end Block

/-! ## The array -/

theorem covers : ((cfgM m hO).win 5).Covers :=
  Pipeline.Window.covers_of_indexMap_surj _ rfl (fun a => match a with | ⟨0, _⟩ => (by decide : 0 < 4096) | ⟨1, _⟩ => (by decide : 0 < 128)) fun β => by
    have b0 : (β (0 : Fin 2)).val < 320 := lt_of_lt_of_eq (β (0 : Fin 2)).isLt (show (1310720 + 4096 - 1) / 4096 = 320 by norm_num)
    have b1 : (β (1 : Fin 2)).val < 1 := lt_of_lt_of_eq (β (1 : Fin 2)).isLt (show (128 + 128 - 1) / 128 = 1 by norm_num)
    refine ⟨fun d => match d with | ⟨0, _⟩ => (⟨(β (0 : Fin 2)).val, b0⟩ : Fin 320), fun a => ?_⟩
    match a with
    | ⟨0, _⟩ =>
      show (BitVec.ofNat 32 (β (0 : Fin 2)).val).toNat = (β (0 : Fin 2)).val
      rw [BitVec.toNat_ofNat, Nat.mod_eq_of_lt (by omega)]
    | ⟨1, _⟩ =>
      show 0 = (β (1 : Fin 2)).val
      omega

theorem final : (dats m hO 0 c).arrAt 5 (cfgM m hO).N = refOut m c := by
  refine (dats m hO 0 c).arrAt_eq_of_covers 5 _ (covers m hO) fun t _ y => ?_
  blk_simp
  have h : t.val < 320 := t.isLt
  refine (congrFun (after_5 m hO c t) y).trans ?_
  obtain ⟨a, b, rfl⟩ : ∃ (a : Fin 4096) (b : Fin 128), y = ix2 a b := ⟨_, _, eq_ix2 y⟩
  refine (point m hO c t h a b).trans (congrArg (refOut m c) (funext fun k => Fin.ext ?_))
  match k with
  | ⟨0, _⟩ =>
    show t.val * 4096 + a.val = (BitVec.ofNat 32 ((grid0.coords t) 0).val).toNat * 4096 + 1 * a.val
    rw [coords_val, BitVec.toNat_ofNat, Nat.mod_eq_of_lt (by omega)]; omega
  | ⟨1, _⟩ => show b.val = 0 * _ + 1 * b.val; omega

attribute [local instance] Cert.Pre_experts.Gen.facts

/-- Both programs end with the reference's result of the kernel's arguments. -/
theorem algebraic : Cert.algebraic_Kernel2Ideal_Reference2Ideal (hPre_experts := Cert.Pre_experts.Gen.facts) := by
  intro m ρ m' ρ' hpre hagree
  have hO : Ok m := ok_of_fn m hpre
  refine ⟨fun c => refOut m c, ?_, ?_⟩
  · refine (θ_run defs _ _).mono (fun r h c => ?_) (run_main (F := Ideal) m ρ hO)
    exact ⟨((h.1 c).1 5).trans (final m hO c), kept_of m hO (dats m hO) (A_eq m hO) r h.1 c⟩
  · refine (θ_run Cert.Reference2Ideal.defs _ _).mono (fun _ h c => ⟨(h c).1.trans ?_, (h c).2⟩) (Cert.Reference2Ideal.Value.run (F := Ideal) m' ρ')
    obtain ⟨h0, h1, h2, h3, h4, h5, h6⟩ := hagree c
    rw [Ref.result_eq, h0, h1, h2, h3, h4, h5, h6]

end Cert.Moe

end
-- ==== Proof.MoeSame.lean ====
/- The experts' program as compiled and as read over the extended reals has one text: the frame of the first is the run proved
   for the second, at the machine's floats. -/
module

public import proofs.«01_k».proof.Proof.MoePre
public import proofs.«01_k».proof.Proof.Gen.Kernel2

@[expose] public section

set_option maxRecDepth 16384

noncomputable section

namespace Cert.Moe

open Idealize.ShloMosaic Idealize.ShloMosaic.TcCoe Idealize.SL.Sem

section Text
variable {F : FTy → Type} [FloatOps F]

theorem bodies_eq : @Cert.Kernel2.defs₀ F _ _ = @Cert.Kernel2Ideal.defs₀ F _ _ := by
  unfold Cert.Kernel2.defs₀ Cert.Kernel2Ideal.defs₀
  refine congrArg Defs.onTc (funext fun l => funext fun a => ?_)
  match l, a with
  | ⟨0, _⟩, (t, s) => rfl

theorem defs_eq : @Cert.Kernel2.defs F _ _ = @Cert.Kernel2Ideal.defs F _ _ := by
  unfold Cert.Kernel2.defs Cert.Kernel2Ideal.defs
  exact congrArg (Pipeline.defs Cert.Kernel2Ideal.pcfgs) bodies_eq

set_option maxHeartbeats 2000000 in
theorem main_eq : @Cert.Kernel2.main F _ _ = @Cert.Kernel2Ideal.main F _ _ := rfl

end Text

theorem run_eq {nD : ℕ} {τ : Topo} {sig : RefSig} {V : EltTy → Type} {Λ : Labels} {D D' : Defs nD τ sig V Λ} (hD : D = D')
    {M M' : Dev nD → Prog (TpuEff nD τ sig V Λ .tc) PUnit} (hM : M = M') (s) (P) (h : θ_run D' (onTc M') s P) : θ_run D (onTc M) s P := by
  subst hD hM; exact h

attribute [local instance] Cert.Pre_experts.Gen.facts

theorem frame_kernel2 : Cert.quiescent_Kernel2 (hPre_experts := Cert.Pre_experts.Gen.facts) := fun m ρ h =>
  run_eq (defs_eq (F := Bits)) (main_eq (F := Bits)) _ _ (run_kept (F := Bits) m ρ (ok_of_fn (F := Bits) m h))

end Cert.Moe

end
-- ==== Proof.FirstWords.lean ====
/- The blocks of the first layer's weights that the experts' call reads. -/
module

public import proofs.«01_k».proof.Proof.FirstLaunch
public import proofs.«01_k».proof.Proof.MoeWords
public import Idealize.ShloMosaic.Lib.Pipeline.ValueKit

@[expose] public section

set_option maxRecDepth 16384

noncomputable section

namespace Cert.First

open Idealize.ShloMosaic Idealize.ShloMosaic.TcCoe
open Idealize.SL Idealize.SL.Sem
open Cert.Moe (Loads cur prev cnt blockOut Used at320 cur_eq prev_eq kept_word coords_val)
open Cert.Kernel2Ideal.Gen (k0_pay1 k0_pay2 k0_pay5)
open Cert.Kernel3Ideal Cert.Kernel3Ideal.Gen

variable {F : FTy → Type} [FloatOps F]
variable (m : (ℓ : Loc nD τ sig) → Buf (Elt F) ℓ)

/-- The expert a point names. -/
theorem word_lt (hO : Ok m) (t : Fin 320) : (at320 (tbl m 0) t.val t.isLt).toNat < 32 := by
  obtain ⟨h, -⟩ := hO.1 (fun d => match d with | ⟨0, _⟩ => t)
  have h1 : (_ + 1) * 1 ≤ 32 := h 1
  rw [Nat.mul_one] at h1
  refine lt_of_eq_of_lt ?_ (Nat.lt_of_succ_le h1)
  refine congrArg (fun z => (tbl m 0 z : BitVec 32).toNat) (funext fun a => Fin.ext ?_)
  match a with
  | ⟨0, _⟩ =>
    show t.val = (BitVec.ofNat 32 t.val).toNat + 1 * 0
    rw [BitVec.toNat_ofNat, Nat.mod_eq_of_lt (by have := t.isLt; omega)]; omega
def expert (hO : Ok m) (t : Fin 320) : Fin 32 := ⟨_, word_lt m hO t⟩

theorem pf_word (t : Fin grid0.N) (h : t.val < 320) (hi) (h1) :
    (Pipeline.Prefetch.Contents.at (tbl m) 0 (Rect.unit (s := S320) ![(Scalar.indexCast (BitVec.ofNat 32 ((grid0.coords t) 0).val)).toNat] S1.size hi) h1 : BitVec 32)
      = at320 (tbl m 0) t.val h := by
  refine congrArg (fun z => (tbl m 0 z : BitVec 32)) (funext fun a => Fin.ext ?_)
  match a with
  | ⟨0, _⟩ =>
    show (BitVec.ofNat 32 ((grid0.coords t) 0).val).toNat + 1 * 0 = t.val
    rw [coords_val, BitVec.toNat_ofNat, Nat.mod_eq_of_lt (by omega)]; omega

theorem iblk1_eq (hO : Ok m) (c : Dev nD) (t : Fin (cfgM m hO).N) (h : t.val < 320) (y : S1x1x1024x2048.Idx) :
    (show Vec F S1x1x1024x2048 .f32 from iblk m hO c 1 t) y = V m c main_arg3 (ix4 0 (expert m hO ⟨t.val, h⟩) (y 2) (y 3)) := by
  unfold expert
  blk_simp [iblk]
  refine congrArg (V m c main_arg3) (funext fun a => Fin.ext ?_)
  have y0 : (y 0).val < 1 := (y 0).isLt
  have y1 : (y 1).val < 1 := (y 1).isLt
  match a with
  | ⟨0, _⟩ => show 0 * 1 + 1 * (y 0).val = 0; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk2_eq (hO : Ok m) (c : Dev nD) (t : Fin (cfgM m hO).N) (h : t.val < 320) (y : S1x1x1x2048.Idx) :
    (show Vec F S1x1x1x2048 .f32 from iblk m hO c 2 t) y = V m c main_v1 (ix4 0 (expert m hO ⟨t.val, h⟩) (y 2) (y 3)) := by
  unfold expert
  blk_simp [iblk]
  refine congrArg (V m c main_v1) (funext fun a => Fin.ext ?_)
  have y0 : (y 0).val < 1 := (y 0).isLt
  have y1 : (y 1).val < 1 := (y 1).isLt
  match a with
  | ⟨0, _⟩ => show 0 * 1 + 1 * (y 0).val = 0; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk3_eq (hO : Ok m) (c : Dev nD) (t : Fin (cfgM m hO).N) (h : t.val < 320) (y : S1x1x1024x1024.Idx) :
    (show Vec F S1x1x1024x1024 .f32 from iblk m hO c 3 t) y = V m c main_arg5 (ix4 0 (expert m hO ⟨t.val, h⟩) (y 2) (y 3)) := by
  unfold expert
  blk_simp [iblk]
  refine congrArg (V m c main_arg5) (funext fun a => Fin.ext ?_)
  have y0 : (y 0).val < 1 := (y 0).isLt
  have y1 : (y 1).val < 1 := (y 1).isLt
  match a with
  | ⟨0, _⟩ => show 0 * 1 + 1 * (y 0).val = 0; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk4_eq (hO : Ok m) (c : Dev nD) (t : Fin (cfgM m hO).N) (h : t.val < 320) (y : S1x1x1x1024.Idx) :
    (show Vec F S1x1x1x1024 .f32 from iblk m hO c 4 t) y = V m c main_v2 (ix4 0 (expert m hO ⟨t.val, h⟩) (y 2) (y 3)) := by
  unfold expert
  blk_simp [iblk]
  refine congrArg (V m c main_v2) (funext fun a => Fin.ext ?_)
  have y0 : (y 0).val < 1 := (y 0).isLt
  have y1 : (y 1).val < 1 := (y 1).isLt
  match a with
  | ⟨0, _⟩ => show 0 * 1 + 1 * (y 0).val = 0; omega
  | ⟨1, _⟩ =>
    refine (congrArg (fun z : BitVec 32 => z.toNat * 1 + 1 * (y 1).val) (pf_word m t h _ _)).trans ?_
    show (at320 (tbl m 0) t.val h).toNat * 1 + 1 * (y 1).val = (at320 (tbl m 0) t.val h).toNat
    omega
  | ⟨2, _⟩ => show 0 * _ + 1 * (y 2).val = (y 2).val; omega
  | ⟨3, _⟩ => show 0 * _ + 1 * (y 3).val = (y 3).val; omega

theorem iblk0_eq (hO : Ok m) (c : Dev nD) (t : Fin (cfgM m hO).N) (h : t.val < 320) (y : S4096x128.Idx) :
    (show Vec F S4096x128 .f32 from iblk m hO c 0 t) y
      = V m c main_v0 (ix2 (⟨t.val * 4096 + (y 0).val, by have := show (y 0).val < 4096 from (y 0).isLt; omega⟩ : Fin 1310720) (y 1)) := by
  blk_simp [iblk]
  refine congrArg (V m c main_v0) (funext fun a => Fin.ext ?_)
  match a with
  | ⟨0, _⟩ =>
    show (BitVec.ofNat 32 ((grid0.coords t) 0).val).toNat * 4096 + 1 * (y 0).val = t.val * 4096 + (y 0).val
    rw [coords_val, BitVec.toNat_ofNat, Nat.mod_eq_of_lt (by omega)]; omega
  | ⟨1, _⟩ => show 0 * _ + 1 * (y 1).val = (y 1).val; omega

/-- Points that name one expert read one block of the weights. -/
theorem iblk1_congr (hO : Ok m) (c : Dev nD) (t t' : Fin (cfgM m hO).N) (h : t.val < 320) (h' : t'.val < 320)
    (e : at320 (tbl m 0) t.val h = at320 (tbl m 0) t'.val h') : (show Vec F S1x1x1024x2048 .f32 from iblk m hO c 1 t) = iblk m hO c 1 t' := by
  funext y
  refine (iblk1_eq m hO c t h y).trans (Eq.trans ?_ (iblk1_eq m hO c t' h' y).symm)
  unfold expert; simp only [e]
theorem iblk3_congr (hO : Ok m) (c : Dev nD) (t t' : Fin (cfgM m hO).N) (h : t.val < 320) (h' : t'.val < 320)
    (e : at320 (tbl m 0) t.val h = at320 (tbl m 0) t'.val h') : (show Vec F S1x1x1024x1024 .f32 from iblk m hO c 3 t) = iblk m hO c 3 t' := by
  funext y
  refine (iblk3_eq m hO c t h y).trans (Eq.trans ?_ (iblk3_eq m hO c t' h' y).symm)
  unfold expert; simp only [e]

end Cert.First
end
-- ==== Proof.FirstRun.lean ====
/- The run of the first layer's experts' call, whose body is the other layer's (Proof/MoeBody.lean, MoeRun.lean): the proof data of its pipeline (each block of the result at `blockOut`, the two scratch
   buffers at the weights of the last point's expert), and what the run leaves. -/
module

public import proofs.«01_k».proof.Proof.FirstWords
public import proofs.«01_k».proof.Proof.MoeRun

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Moe (Loads cur prev cnt blockOut Used at320 cur_eq prev_eq kept_word coords_val)
open Cert.Kernel2Ideal.Gen (k0_pay1 k0_pay2 k0_pay5)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem owns_some (c : Dev nD) {S : Shape} {e : EltTy} (M : Memref sig .tc .vmem S e) (d : Vec F S e) :
    (owns (c : Thread nD τ) M fullShare d : sProp 𝕄) ⊢ iprop(∃ d, owns (c : Thread nD τ) M fullShare d) := by
  iintro H
  iexists _; iexact H

/-- The two layers' calls run one body. -/
theorem defs₀_eq : @Cert.Kernel3Ideal.defs₀ F _ _ = @Cert.Kernel2Ideal.defs₀ F _ _ := by
  unfold Cert.Kernel3Ideal.defs₀ Cert.Kernel2Ideal.defs₀
  refine congrArg Defs.onTc (funext fun l => funext fun a => ?_)
  match l, a with
  | ⟨0, _⟩, (t, s) => rfl

set_option maxHeartbeats 3200000 in
/-- A point that loads its expert's weights, with what the call hands on around the body: `S0` and `S1` own the scratch buffers at anything. -/
theorem point_load (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : Loads c i xt0) {D0 D1 D2 D3 D4 D5 : Type} (f5 : D5 → Vec F S4096x128 .f32) (G O S0 S1 : sProp 𝕄) (h0 : S0 ⊢ iprop(∃ d, owns (c : Thread nD τ) scI fullShare d)) (h1 : S1 ⊢ iprop(∃ d, owns (c : Thread nD τ) scO fullShare d)) :
    iprop(((((S0 ∗ S1) ∗ G) ∗ (tabPt c tabE xt0 ∗ tabPt c tabN xt1)) ∗ O ∗ (∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ d : D5, owns (c : Thread nD τ) arg8 fullShare (f5 d))))
      ⊢ wp frame (wpE (defs₀ (F := F)) Variants.none c none) Set.univ (cc0_moe_experts i tabE htabE tabN htabN arg3 harg3 arg4 harg4 arg5 harg5 arg6 harg6 arg7 harg7 arg8 harg8 scI (Memref.isWhole_whole _) scO (Memref.isWhole_whole _))
          (fun _ => iprop(((((owns (c : Thread nD τ) scI fullShare (k0_pay1 x1) ∗ owns (c : Thread nD τ) scO fullShare (k0_pay2 x3)) ∗ G) ∗ (tabPt c tabE xt0 ∗ tabPt c tabN xt1)) ∗ O ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut i (cnt c xt1) x0 x1 x2 x3 x4)))) := by
  rw [defs₀_eq]
  exact Cert.Moe.point_load c i arg3 harg3 arg4 harg4 arg5 harg5 arg6 harg6 arg7 harg7 arg8 harg8 x0 x1 x2 x3 x4 xt0 xt1 hA f5 G O S0 S1 h0 h1

set_option maxHeartbeats 3200000 in
/-- A point that keeps the weights, with what the call hands on around the body. -/
theorem point_keep (c : Dev nD) (i : grid0.Coords) (arg3 : Memref sig .tc .vmem S4096x128 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S4096x128 .f32) (harg8 : arg8.IsWhole)
    (x0 : Vec F S4096x128 .f32) (x1 : Vec F S1x1x1024x2048 .f32) (x2 : Vec F S1x1x1x2048 .f32) (x3 : Vec F S1x1x1024x1024 .f32) (x4 : Vec F S1x1x1x1024 .f32) (xt0 : TabBuf (F := F) c tabE) (xt1 : TabBuf (F := F) c tabN)
    (hA : ¬ Loads c i xt0) {D0 D1 D2 D3 D4 D5 : Type} (f5 : D5 → Vec F S4096x128 .f32) (G O : sProp 𝕄) :
    iprop(((((owns (c : Thread nD τ) scI fullShare (k0_pay1 x1) ∗ owns (c : Thread nD τ) scO fullShare (k0_pay2 x3)) ∗ G) ∗ (tabPt c tabE xt0 ∗ tabPt c tabN xt1)) ∗ O ∗ (∃ _ : D0, owns (c : Thread nD τ) arg3 fullShare x0) ∗ (∃ _ : D1, owns (c : Thread nD τ) arg4 fullShare x1) ∗ (∃ _ : D2, owns (c : Thread nD τ) arg5 fullShare x2) ∗ (∃ _ : D3, owns (c : Thread nD τ) arg6 fullShare x3) ∗ (∃ _ : D4, owns (c : Thread nD τ) arg7 fullShare x4) ∗ (∃ d : D5, owns (c : Thread nD τ) arg8 fullShare (f5 d))))
      ⊢ wp frame (wpE (defs₀ (F := F)) Variants.none c none) Set.univ (cc0_moe_experts i tabE htabE tabN htabN arg3 harg3 arg4 harg4 arg5 harg5 arg6 harg6 arg7 harg7 arg8 harg8 scI (Memref.isWhole_whole _) scO (Memref.isWhole_whole _))
          (fun _ => iprop(((((owns (c : Thread nD τ) scI fullShare (k0_pay1 x1) ∗ owns (c : Thread nD τ) scO fullShare (k0_pay2 x3)) ∗ G) ∗ (tabPt c tabE xt0 ∗ tabPt c tabN xt1)) ∗ O ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut i (cnt c xt1) x0 x1 x2 x3 x4)))) := by
  rw [defs₀_eq]
  exact Cert.Moe.point_keep c i arg3 harg3 arg4 harg4 arg5 harg5 arg6 harg6 arg7 harg7 arg8 harg8 x0 x1 x2 x3 x4 xt0 xt1 hA f5 G O

/-! ## The proof data -/

/-- The weights the scratch buffers hold after point `n`. -/
def wI (hO : Ok m) (c : Dev nD) (t : Fin (cfgM m hO).N) : Vec F S1024x2048 .bf16 := k0_pay1 (show Vec F S1x1x1024x2048 .f32 from iblk m hO c 1 t)
def wO (hO : Ok m) (c : Dev nD) (t : Fin (cfgM m hO).N) : Vec F S1024x1024 .bf16 := k0_pay2 (show Vec F S1x1x1024x1024 .f32 from iblk m hO c 3 t)

/-- The block of the result point `t` writes. -/
def outBlk (hO : Ok m) (c : Dev nD) (t : Fin (cfgM m hO).N) : Vec F S4096x128 .f32 :=
  blockOut (grid0.coords t) (cnt c (tbl m 1)) (iblk m hO c 0 t) (iblk m hO c 1 t) (iblk m hO c 2 t) (iblk m hO c 3 t) (iblk m hO c 4 t)

/-- The invariant before point `n`: the scratch buffers at anything before the first, then at the last point's weights. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scI fullShare (wI m hO c ⟨n, hn⟩) ∗ owns (c : Thread nD τ) scO fullShare (wO m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scI fullShare (wI m hO c ⟨n, hn⟩) ∗ owns (c : Thread nD τ) scO fullShare (wO m hO c ⟨n, hn⟩)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scI fullShare (wI m hO c ⟨n - 1, by omega⟩) ∗ owns (c : Thread nD τ) scO fullShare (wO m hO c ⟨n - 1, by omega⟩)) ∗ (∃ r, prngReg c r)) ∗ Pipeline.ΦT pre0 (tbl m) c) := by
  cases n with
  | zero => exact absurd rfl hz
  | succ n => rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outBlk m hO c t := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t))

theorem kept_wI (hO : Ok m) (c : Dev nD) (t : Fin (cfgM m hO).N) (hL : ¬ Loads c (grid0.coords t) (tbl m 0)) :
    ∃ h0 : t.val ≠ 0, wI m hO c ⟨t.val - 1, by omega⟩ = wI m hO c t ∧ wO m hO c ⟨t.val - 1, by omega⟩ = wO m hO c t := by
  have hN : t.val < 320 := lt_of_lt_of_eq t.isLt (show (cfgM m hO).N = 320 from N_0)
  obtain ⟨h0, e⟩ := kept_word c (grid0.coords t) (tbl m 0) hL
  have e' := ((cur_eq c (grid0.coords t) (tbl m 0)).symm.trans e).trans (prev_eq c (grid0.coords t) (tbl m 0))
  clear e
  simp only [coords_val] at h0 e'
  exact ⟨h0, congrArg k0_pay1 (iblk1_congr m hO c ⟨t.val - 1, by omega⟩ t (by dsimp only; omega) hN e'.symm),
    congrArg k0_pay2 (iblk3_congr m hO c ⟨t.val - 1, by omega⟩ t (by dsimp only; omega) hN e'.symm)⟩

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).owesAt () t.succ = (dats m hO 0 c).owesAt () t.castSucc from rfl,
    after_0, after_1, after_2, after_3, after_4, after_5]
  rw [show (dats m hO 0 c).Φ t.succ = PhiS m hO c (t.val + 1) t.isLt from rfl, PhiS_succ, PhiT_eq]
  unfold outBlk
  by_cases hL : Loads c (grid0.coords t) (tbl m 0)
  · by_cases hz : t.val = 0
    · rw [PhiS_castSucc m hO c t, PhiS_zero m hO c _ _ hz, PhiT_eq, PhiA_eq]
      exact point_load c (grid0.coords t) _ _ _ _ _ _ _ _ _ _ _ _ (iblk m hO c 0 t) (iblk m hO c 1 t) (iblk m hO c 2 t) (iblk m hO c 3 t) (iblk m hO c 4 t) (tbl m 0) (tbl m 1) hL _ _ _ _ _ .rfl .rfl
    · rw [PhiS_castSucc m hO c t, PhiS_pos m hO c _ _ hz, PhiT_eq]
      exact point_load c (grid0.coords t) _ _ _ _ _ _ _ _ _ _ _ _ (iblk m hO c 0 t) (iblk m hO c 1 t) (iblk m hO c 2 t) (iblk m hO c 3 t) (iblk m hO c 4 t) (tbl m 0) (tbl m 1) hL _ _ _ _ _ (owns_some c scI _) (owns_some c scO _)
  · obtain ⟨hz, e0, e1⟩ := kept_wI m hO c t hL
    rw [PhiS_castSucc m hO c t, PhiS_pos m hO c _ _ hz, PhiT_eq, e0, e1]
    exact point_keep c (grid0.coords t) _ _ _ _ _ _ _ _ _ _ _ _ (iblk m hO c 0 t) (iblk m hO c 1 t) (iblk m hO c 2 t) (iblk m hO c 3 t) (iblk m hO c 4 t) (tbl m 0) (tbl m 1) hL _ _ _

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's buffer is written back at every point, so what the body leaves in it is stated in one way. -/
theorem leaves_5 (hO : Ok m) (c : Dev nD) (t : Fin (cfgM m hO).N) :
    owns (c : Thread nD τ) (ms_5 m hO t) fullShare ((dats m hO 0 c).after 5 t) = ((dats m hO 0 c).leavesExact 5 t : sProp 𝕄) := by
  unfold Dat.leavesExact
  rw [flush_5 m hO t]
  generalize (cfgM m hO).idle 5 ((cfgM m hO).grid.coords t) = b
  cases b <;> rfl

/-- `bodyPost`, the result's buffer as the pipeline's obligation states it. -/
def bodyPost' (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ (dats m hO 0 c).leavesExact 5 t)

theorem post_eq (hO : Ok m) (c : Dev nD) (t : Fin (cfgM m hO).N) : bodyPost m hO c t = bodyPost' m hO c t := by
  unfold bodyPost bodyPost'
  rw [← leaves_5 m hO c t]

theorem sound_body' (hO : Ok m) (c : Dev nD) (t : Fin (cfgM m hO).N) :
    bodyPre m hO c t ⊢ wp frame (wpE (defs₀ (F := F)) Variants.none c none) Set.univ (bodyAt m hO t) (fun _ => bodyPost' m hO c t) :=
  post_eq m hO c t ▸ sound_body m hO c t

set_option maxHeartbeats 3200000 in
theorem body_obligation (hO : Ok m) (c : Dev nD) : BodyObligation (dats (F := F) m hO 0 c) (defs₀ (F := F)) Variants.none () Set.univ := fun t => by
  rw [bigSep_W0, bigSep_W0, defs₀_row m hO]
  exact triple_restated (sound_body' m hO c t) rfl .rfl fun _ => .rfl

/-! ## The run -/

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA_eq]
  iintro ⟨⟨⟨HS0, HS1⟩, Hg⟩, -⟩
  isplitl [HS0 HS1]
  · isplitl [HS0]
    · iexists _; iexact HS0
    iexists _; iexact HS1
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 320 := N_0; omega)

set_option backward.isDefEq.respectTransparency.types false in
/-- What the run of the program leaves. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_kept (hO : Ok m) : θ_run defs (onTc (τ := τ) (main (F := F))) (s₀ m ρ) (fun r => Kept m r.2.mem ∧ r.2.sem = fun _ => 0) :=
  (θ_run defs _ _).mono (fun r h => ⟨kept_of m hO (dats m hO) (A_eq m hO) r h.1, h.2⟩) (run_main m ρ hO)

end Cert.First

end
-- ==== Proof.FirstPre.lean ====
/- What the precondition `experts` gives: every block's expert is one of the 32, so the blocks the table names lie inside the first layer's weights. -/
module

public import proofs.«01_k».proof.Proof.FirstRun
public import proofs.«01_k».proof.Proof.MoePre
public import proofs.«01_k».proof.Proof.Gen.Pre_experts
public import proofs.«01_k».proof.Defs

@[expose] public section

set_option maxRecDepth 16384

noncomputable section

namespace Cert.First

open Idealize.ShloMosaic Idealize.ShloMosaic.TcCoe Idealize.SL.Sem
open Idealize.ShloMosaic.WordCmp
open Cert.Moe (Loads cur prev cnt blockOut Used at320 cur_eq prev_eq kept_word coords_val)
open Cert.Kernel2Ideal.Gen (k0_pay1 k0_pay2 k0_pay5)
open Cert.Kernel3Ideal Cert.Kernel3Ideal.Gen

variable {F : FTy → Type} [FloatOps F]

attribute [local instance] Cert.Pre_experts.Gen.facts

variable (m : (ℓ : Loc nD τ sig) → Buf (Elt F) ℓ)

theorem tbl_0 : tbl m 0 = m (((0 : Dev nD).tc : Thread nD τ).loc main_arg1) := V_of m 0 main_arg1 ⟨by decide, by decide, by decide⟩
theorem tbl_1 : tbl m 1 = m (((0 : Dev nD).tc : Thread nD τ).loc main_arg2) := V_of m 0 main_arg2 ⟨by decide, by decide, by decide⟩

theorem ok_of_words (h : ∀ z, (m (((0 : Dev nD).tc : Thread nD τ).loc main_arg1) z : BitVec 32).toNat < 32) : Ok m := by
  have w : ∀ z, (tbl m 0 z : BitVec 32).toNat < 32 := by rw [tbl_0]; exact h
  refine ⟨fun i => ⟨fun a => ?_, .inl rfl⟩, fun i => ⟨fun a => ?_, .inl rfl⟩, fun i => ⟨fun a => ?_, .inl rfl⟩, fun i => ⟨fun a => ?_, .inl rfl⟩⟩
  · exact match a with
    | ⟨0, _⟩ => (by decide : (0 + 1) * 1 ≤ 2)
    | ⟨1, _⟩ => (Nat.mul_one _).trans_le (Nat.succ_le_of_lt (w _))
    | ⟨2, _⟩ => (by decide : (0 + 1) * 1024 ≤ 1024)
    | ⟨3, _⟩ => (by decide : (0 + 1) * 2048 ≤ 2048)
  · exact match a with
    | ⟨0, _⟩ => (by decide : (0 + 1) * 1 ≤ 2)
    | ⟨1, _⟩ => (Nat.mul_one _).trans_le (Nat.succ_le_of_lt (w _))
    | ⟨2, _⟩ => (by decide : (0 + 1) * 1 ≤ 1)
    | ⟨3, _⟩ => (by decide : (0 + 1) * 2048 ≤ 2048)
  · exact match a with
    | ⟨0, _⟩ => (by decide : (0 + 1) * 1 ≤ 2)
    | ⟨1, _⟩ => (Nat.mul_one _).trans_le (Nat.succ_le_of_lt (w _))
    | ⟨2, _⟩ => (by decide : (0 + 1) * 1024 ≤ 1024)
    | ⟨3, _⟩ => (by decide : (0 + 1) * 1024 ≤ 1024)
  · exact match a with
    | ⟨0, _⟩ => (by decide : (0 + 1) * 1 ≤ 2)
    | ⟨1, _⟩ => (Nat.mul_one _).trans_le (Nat.succ_le_of_lt (w _))
    | ⟨2, _⟩ => (by decide : (0 + 1) * 1 ≤ 1)
    | ⟨3, _⟩ => (by decide : (0 + 1) * 1024 ≤ 1024)

theorem ok_of_fn (h : ∀ c : Dev nD, Cert.Pre_experts.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1) : Ok m :=
  ok_of_words m (Cert.Moe.words_of_fn _ _ _ _ _ _ _ (h 0))

theorem frame_kernel3Ideal : Cert.quiescent_Kernel3Ideal (hPre_experts := Cert.Pre_experts.Gen.facts) := fun m ρ h => run_kept m ρ (ok_of_fn m h)

end Cert.First

end
-- ==== Proof.FirstRef.lean ====
/- The reference of the first layer's experts' call: the stages of Proof/MoeRef.lean on the first layer's weights. -/
module

public import proofs.«01_k».proof.Proof.MoeRef
public import proofs.«01_k».proof.Proof.Gen.Reference3Ideal.Run

@[expose] public section

set_option maxRecDepth 16384

noncomputable section

namespace Cert.First.Ref

open Idealize.ShloMosaic Idealize.ShloMosaic.TcCoe Idealize.SL.Sem
open Cert.Moe.Ref (result rows masked second act up gate first w1Of b1Of w2Of b2Of xb numbers)
open Cert.Reference3Ideal Cert.Reference3Ideal.Gen

/-- The layer's weights and biases. -/
def w1 (w : FVec Ideal S2x32x1024x2048 .f32) : FVec Ideal S32x1024x2048 .f32 :=
  shapeCast _ (extractStridedSlice S1x32x1024x2048 ![0, 0, 0, 0] w slices_S2x32x1024x2048_S1x32x1024x2048_0_0_0_0) shapeCasts_S1x32x1024x2048_S32x1024x2048
def b1 (b : FVec Ideal S2x32x2048 .f32) : FVec Ideal S32x2048 .f32 :=
  shapeCast _ (extractStridedSlice S1x32x2048 ![0, 0, 0] b slices_S2x32x2048_S1x32x2048_0_0_0) shapeCasts_S1x32x2048_S32x2048
def w2 (w : FVec Ideal S2x32x1024x1024 .f32) : FVec Ideal S32x1024x1024 .f32 :=
  shapeCast _ (extractStridedSlice S1x32x1024x1024 ![0, 0, 0, 0] w slices_S2x32x1024x1024_S1x32x1024x1024_0_0_0_0) shapeCasts_S1x32x1024x1024_S32x1024x1024
def b2 (b : FVec Ideal S2x32x1024 .f32) : FVec Ideal S32x1024 .f32 :=
  shapeCast _ (extractStridedSlice S1x32x1024 ![0, 0, 0] b slices_S2x32x1024_S1x32x1024_0_0_0) shapeCasts_S1x32x1024_S32x1024

theorem result_eq (m : (ℓ : Loc nD τ sig) → Buf (Elt Ideal) ℓ) (c : Dev nD) :
    Cert.Reference3Ideal.Value.res_main_v67 m c
      = result (m ((c.tc : Thread nD τ).loc main_arg0)) (m ((c.tc : Thread nD τ).loc main_arg1)) (m ((c.tc : Thread nD τ).loc main_arg2))
          (w1 (m ((c.tc : Thread nD τ).loc main_arg3))) (b1 (m ((c.tc : Thread nD τ).loc main_arg4))) (w2 (m ((c.tc : Thread nD τ).loc main_arg5)))
          (b2 (m ((c.tc : Thread nD τ).loc main_arg6))) := by
  unfold Cert.Reference3Ideal.Value.res_main_v67 result rows masked second act up gate first w1Of b1Of w2Of b2Of w1 b1 w2 b2 xb numbers
  congr 1

theorem w1_at (w) (e : Fin 32) (k : Fin 1024) (f : Fin 2048) : w1 w (ix3 e k f) = w (ix4 0 e k f) := by pointwise [w1]
theorem b1_at (b) (e : Fin 32) (f : Fin 2048) : b1 b (ix2 e f) = b (ix3 0 e f) := by pointwise [b1]
theorem w2_at (w) (e : Fin 32) (f : Fin 1024) (d : Fin 1024) : w2 w (ix3 e f d) = w (ix4 0 e f d) := by pointwise [w2]
theorem b2_at (b) (e : Fin 32) (d : Fin 1024) : b2 b (ix2 e d) = b (ix3 0 e d) := by pointwise [b2]

end Cert.First.Ref

end
-- ==== Proof.FirstFinal.lean ====
/- The array of the first layer's experts after the run is the reference's. -/
module

public import proofs.«01_k».proof.Proof.FirstPre
public import proofs.«01_k».proof.Proof.FirstRef
public import proofs.«01_k».proof.Defs
public import Idealize.ShloMosaic.Lib.Claim
public import Idealize.ShloMosaic.Lib.Pipeline.Covers
public import Idealize.ShloMosaic.Lib.Pipeline.ValueKit

@[expose] public section

set_option maxRecDepth 16384

noncomputable section

namespace Cert.First

open Idealize.ShloMosaic Idealize.ShloMosaic.TcCoe Idealize.SL.Sem
open Cert.Moe (at320 coords_val cnt blockOut Used rowsIn rowsOut rowsOut_at expertRow pay1_at pay2_at)
open Cert.Kernel2Ideal.Gen (k0_pay1 k0_pay2 k0_pay5)
open Cert.Kernel3Ideal Cert.Kernel3Ideal.Gen

variable (m : (ℓ : Loc nD τ sig) → Buf (Elt Ideal) ℓ) (hO : Ok m) (c : Dev nD)

/-! ## The arguments, and the arrays made of them -/

abbrev xIn : FVec Ideal S163840x1024 .f32 := m ((c.tc : Thread nD τ).loc main_arg0)
abbrev eIn : IVec S320 32 := m ((c.tc : Thread nD τ).loc main_arg1)
abbrev nIn : IVec S1 32 := m ((c.tc : Thread nD τ).loc main_arg2)
abbrev wiIn : FVec Ideal S2x32x1024x2048 .f32 := m ((c.tc : Thread nD τ).loc main_arg3)
abbrev biIn : FVec Ideal S2x32x2048 .f32 := m ((c.tc : Thread nD τ).loc main_arg4)
abbrev woIn : FVec Ideal S2x32x1024x1024 .f32 := m ((c.tc : Thread nD τ).loc main_arg5)
abbrev boIn : FVec Ideal S2x32x1024 .f32 := m ((c.tc : Thread nD τ).loc main_arg6)

theorem xArr_at (q : Fin 1310720) (l : Fin 128) :
    (show FVec Ideal S1310720x128 .f32 from V m c main_v0) (ix2 q l) = xIn m c (ix2 ⟨q.val / 8, by omega⟩ ⟨(q.val % 8) * 128 + l.val, by omega⟩) := by
  have e : (show FVec Ideal S1310720x128 .f32 from V m c main_v0) = shapeCast _ (xIn m c) shapeCasts_S163840x1024_S1310720x128 := by
    entry_read
    rfl
  rw [e]
  refine shapeCast_apply _ _ _ _ ?_
  rw [Shape.rowMajor_val_two, Shape.rowMajor_val_two]
  show q.val / 8 * 1024 + ((q.val % 8) * 128 + l.val) = q.val * 128 + l.val
  omega

theorem biArr_at (e : Fin 32) (f : Fin 2048) :
    (show FVec Ideal S2x32x1x2048 .f32 from V m c main_v1) (ix4 0 e 0 f) = biIn m c (ix3 0 e f) := by
  have h : (show FVec Ideal S2x32x1x2048 .f32 from V m c main_v1) = shapeCast _ (biIn m c) shapeCasts_S2x32x2048_S2x32x1x2048 := by
    entry_read
    rfl
  rw [h]
  pointwise []

theorem boArr_at (e : Fin 32) (d : Fin 1024) :
    (show FVec Ideal S2x32x1x1024 .f32 from V m c main_v2) (ix4 0 e 0 d) = boIn m c (ix3 0 e d) := by
  have h : (show FVec Ideal S2x32x1x1024 .f32 from V m c main_v2) = shapeCast _ (boIn m c) shapeCasts_S2x32x1024_S2x32x1x1024 := by
    entry_read
    rfl
  rw [h]
  pointwise []

/-! ## A block's operands -/

section Block
variable (t : Fin (cfgM m hO).N) (h : t.val < 320)

theorem rowsIn_at (r : Fin 512) (k : Fin 1024) : rowsIn (iblk m hO c 0 t) r k = xIn m c (ix2 ⟨t.val * 512 + r.val, by omega⟩ k) := by
  unfold rowsIn
  refine (iblk0_eq m hO c t h _).trans ((xArr_at m c _ _).trans (congrArg (xIn m c) (funext fun a => Fin.ext ?_)))
  match a with
  | ⟨0, _⟩ => show (t.val * 4096 + (r.val * 8 + k.val / 128)) / 8 = t.val * 512 + r.val; omega
  | ⟨1, _⟩ => show (t.val * 4096 + (r.val * 8 + k.val / 128)) % 8 * 128 + k.val % 128 = k.val; omega

theorem wi_at (k : Fin 1024) (f : Fin 2048) :
    (k0_pay1 (iblk m hO c 1 t) : FVec Ideal S1024x2048 .bf16) (ix2 k f) = wiIn m c (ix4 0 (expert m hO ⟨t.val, h⟩) k f) :=
  (pay1_at _ k f).trans ((iblk1_eq m hO c t h _).trans (congrFun (V_of m c main_arg3 ⟨by decide, by decide, by decide⟩) _))

theorem wo_at (f : Fin 1024) (d : Fin 1024) :
    (k0_pay2 (iblk m hO c 3 t) : FVec Ideal S1024x1024 .bf16) (ix2 f d) = woIn m c (ix4 0 (expert m hO ⟨t.val, h⟩) f d) :=
  (pay2_at _ f d).trans ((iblk3_eq m hO c t h _).trans (congrFun (V_of m c main_arg5 ⟨by decide, by decide, by decide⟩) _))

theorem bi_at (f : Fin 2048) : (show FVec Ideal S1x1x1x2048 .f32 from iblk m hO c 2 t) (ix4 0 0 0 f) = biIn m c (ix3 0 (expert m hO ⟨t.val, h⟩) f) :=
  (iblk2_eq m hO c t h _).trans (biArr_at m c _ f)

theorem bo_at (d : Fin 1024) : (show FVec Ideal S1x1x1x1024 .f32 from iblk m hO c 4 t) (ix4 0 0 0 d) = boIn m c (ix3 0 (expert m hO ⟨t.val, h⟩) d) :=
  (iblk4_eq m hO c t h _).trans (boArr_at m c _ d)

theorem count_eq : cnt c (tbl m 1) = nIn m c (ix1 0) := by
  obtain rfl : c = 0 := Subsingleton.elim _ _
  rw [tbl_1]
  refine congrArg (nIn m 0) (funext fun a => Fin.ext ?_)
  match a with
  | ⟨0, _⟩ => rfl

theorem word_eq : at320 (tbl m 0) t.val h = eIn m c (ix1 ⟨t.val, h⟩) := by
  obtain rfl : c = 0 := Subsingleton.elim _ _
  rw [tbl_0]
  refine congrArg (eIn m 0) (funext fun a => Fin.ext ?_)
  match a with
  | ⟨0, _⟩ => rfl

/-- The reference's result of the kernel's arguments. -/
abbrev refOut : FVec Ideal S1310720x128 .f32 :=
  Cert.Moe.Ref.result (xIn m c) (eIn m c) (nIn m c) (Ref.w1 (wiIn m c)) (Ref.b1 (biIn m c)) (Ref.w2 (woIn m c)) (Ref.b2 (boIn m c))

theorem row_at (he : (eIn m c (ix1 ⟨t.val, h⟩)).toNat < 32) (r : Fin 512) (d : Fin 1024) :
    rowsOut (iblk m hO c 0 t) (k0_pay1 (iblk m hO c 1 t)) (iblk m hO c 2 t) (k0_pay2 (iblk m hO c 3 t)) (iblk m hO c 4 t) (ix2 r d)
      = Cert.Moe.Ref.rows (xIn m c) (eIn m c) (Ref.w1 (wiIn m c)) (Ref.b1 (biIn m c)) (Ref.w2 (woIn m c)) (Ref.b2 (boIn m c)) (ix3 ⟨t.val, h⟩ r d) := by
  have ex : expert m hO ⟨t.val, h⟩ = ⟨(eIn m c (ix1 ⟨t.val, h⟩)).toNat, he⟩ := Fin.ext (show (at320 (tbl m 0) t.val h).toNat = _ from congrArg BitVec.toNat (word_eq m hO c t h))
  refine (rowsOut_at _ _ _ _ _ r d).trans (Eq.trans ?_ (Cert.Moe.Ref.rows_at _ _ _ _ _ _ ⟨t.val, h⟩ he r d).symm)
  rw [← ex]
  have e0 := funext (rowsIn_at m hO c t h r)
  have e1 := funext fun k => funext fun f => (wi_at m hO c t h k f).trans (Ref.w1_at _ _ k f).symm
  have e2 := funext fun f => (bi_at m hO c t h f).trans (Ref.b1_at _ _ f).symm
  have e3 := funext fun f => funext fun d => (wo_at m hO c t h f d).trans (Ref.w2_at _ _ f d).symm
  have e4 := funext fun d => (bo_at m hO c t h d).trans (Ref.b2_at _ _ d).symm
  exact congr (congr (congr (congr (congr (congrArg expertRow e0) e1) e2) e3) e4) rfl

theorem point (a : Fin 4096) (b : Fin 128) :
    outBlk m hO c t (ix2 a b) = refOut m c (ix2 ⟨t.val * 4096 + a.val, by omega⟩ b) := by
  have he : (eIn m c (ix1 ⟨t.val, h⟩)).toNat < 32 := lt_of_eq_of_lt (congrArg BitVec.toNat (word_eq m hO c t h).symm) (word_lt m hO ⟨t.val, h⟩)
  refine Eq.trans ?_ ((Cert.Moe.Ref.result_at _ _ _ _ _ _ _ _ _ ⟨t.val, h⟩ ⟨a.val / 8, by omega⟩ ⟨128 * (a.val % 8) + b.val, by omega⟩
    (by show t.val * 4096 + a.val = t.val * 4096 + a.val / 8 * 8 + (128 * (a.val % 8) + b.val) / 128; omega)
    (by show b.val = (128 * (a.val % 8) + b.val) % 128; omega)).trans (Cert.Moe.Ref.masked_at _ _ _ _ _)).symm
  unfold outBlk blockOut
  have hc : ((grid0.coords t) 0).val = t.val := coords_val t
  have hu : Used (grid0.coords t) (cnt c (tbl m 1)) ↔ (BitVec.ofNat 32 t.val).slt (nIn m c (ix1 0)) = true := by
    unfold Used
    rw [count_eq, hc]
  by_cases u : (BitVec.ofNat 32 t.val).slt (nIn m c (ix1 0)) = true
  · rw [if_pos (hu.2 u), if_pos u]
    refine Eq.trans ?_ (row_at m hO c t h he _ _)
    refine congrArg (rowsOut (iblk m hO c 0 t) (k0_pay1 (iblk m hO c 1 t)) (iblk m hO c 2 t) (k0_pay2 (iblk m hO c 3 t)) (iblk m hO c 4 t)) (funext fun a => ?_)
    match a with
    | ⟨0, _⟩ => rfl
    | ⟨1, _⟩ => rfl
  · rw [if_neg (fun z => u (hu.1 z)), if_neg u]
    pointwise [k0_pay5]

end Block

/-! ## The array -/

theorem covers : ((cfgM m hO).win 5).Covers :=
  Pipeline.Window.covers_of_indexMap_surj _ rfl (fun a => match a with | ⟨0, _⟩ => (by decide : 0 < 4096) | ⟨1, _⟩ => (by decide : 0 < 128)) fun β => by
    have b0 : (β (0 : Fin 2)).val < 320 := lt_of_lt_of_eq (β (0 : Fin 2)).isLt (show (1310720 + 4096 - 1) / 4096 = 320 by norm_num)
    have b1 : (β (1 : Fin 2)).val < 1 := lt_of_lt_of_eq (β (1 : Fin 2)).isLt (show (128 + 128 - 1) / 128 = 1 by norm_num)
    refine ⟨fun d => match d with | ⟨0, _⟩ => (⟨(β (0 : Fin 2)).val, b0⟩ : Fin 320), fun a => ?_⟩
    match a with
    | ⟨0, _⟩ =>
      show (BitVec.ofNat 32 (β (0 : Fin 2)).val).toNat = (β (0 : Fin 2)).val
      rw [BitVec.toNat_ofNat, Nat.mod_eq_of_lt (by omega)]
    | ⟨1, _⟩ =>
      show 0 = (β (1 : Fin 2)).val
      omega

theorem final : (dats m hO 0 c).arrAt 5 (cfgM m hO).N = refOut m c := by
  refine (dats m hO 0 c).arrAt_eq_of_covers 5 _ (covers m hO) fun t _ y => ?_
  blk_simp
  have h : t.val < 320 := t.isLt
  refine (congrFun (after_5 m hO c t) y).trans ?_
  obtain ⟨a, b, rfl⟩ : ∃ (a : Fin 4096) (b : Fin 128), y = ix2 a b := ⟨_, _, eq_ix2 y⟩
  refine (point m hO c t h a b).trans (congrArg (refOut m c) (funext fun k => Fin.ext ?_))
  match k with
  | ⟨0, _⟩ =>
    show t.val * 4096 + a.val = (BitVec.ofNat 32 ((grid0.coords t) 0).val).toNat * 4096 + 1 * a.val
    rw [coords_val, BitVec.toNat_ofNat, Nat.mod_eq_of_lt (by omega)]; omega
  | ⟨1, _⟩ => show b.val = 0 * _ + 1 * b.val; omega

attribute [local instance] Cert.Pre_experts.Gen.facts

/-- Both programs end with the reference's result of the kernel's arguments. -/
theorem algebraic : Cert.algebraic_Kernel3Ideal_Reference3Ideal (hPre_experts := Cert.Pre_experts.Gen.facts) := by
  intro m ρ m' ρ' hpre hagree
  have hO : Ok m := ok_of_fn m hpre
  refine ⟨fun c => refOut m c, ?_, ?_⟩
  · refine (θ_run defs _ _).mono (fun r h c => ?_) (run_main (F := Ideal) m ρ hO)
    exact ⟨((h.1 c).1 5).trans (final m hO c), kept_of m hO (dats m hO) (A_eq m hO) r h.1 c⟩
  · refine (θ_run Cert.Reference3Ideal.defs _ _).mono (fun _ h c => ⟨(h c).1.trans ?_, (h c).2⟩) (Cert.Reference3Ideal.Value.run (F := Ideal) m' ρ')
    obtain ⟨h0, h1, h2, h3, h4, h5, h6⟩ := hagree c
    rw [Ref.result_eq, h0, h1, h2, h3, h4, h5, h6]

end Cert.First

end
-- ==== Proof.FirstSame.lean ====
/- The first layer's experts' program as compiled and as read over the extended reals has one text: the frame of the first is the run proved
   for the second, at the machine's floats. -/
module

public import proofs.«01_k».proof.Proof.FirstPre
public import proofs.«01_k».proof.Proof.MoeSame
public import proofs.«01_k».proof.Proof.Gen.Kernel3

@[expose] public section

set_option maxRecDepth 16384

noncomputable section

namespace Cert.First

open Idealize.ShloMosaic Idealize.ShloMosaic.TcCoe Idealize.SL.Sem

section Text
variable {F : FTy → Type} [FloatOps F]

theorem bodies_eq : @Cert.Kernel3.defs₀ F _ _ = @Cert.Kernel3Ideal.defs₀ F _ _ := by
  unfold Cert.Kernel3.defs₀ Cert.Kernel3Ideal.defs₀
  refine congrArg Defs.onTc (funext fun l => funext fun a => ?_)
  match l, a with
  | ⟨0, _⟩, (t, s) => rfl

theorem defs_eq : @Cert.Kernel3.defs F _ _ = @Cert.Kernel3Ideal.defs F _ _ := by
  unfold Cert.Kernel3.defs Cert.Kernel3Ideal.defs
  exact congrArg (Pipeline.defs Cert.Kernel3Ideal.pcfgs) bodies_eq

set_option maxHeartbeats 2000000 in
theorem main_eq : @Cert.Kernel3.main F _ _ = @Cert.Kernel3Ideal.main F _ _ := rfl

end Text

attribute [local instance] Cert.Pre_experts.Gen.facts

theorem frame_kernel3 : Cert.quiescent_Kernel3 (hPre_experts := Cert.Pre_experts.Gen.facts) := fun m ρ h =>
  Cert.Moe.run_eq (defs_eq (F := Bits)) (main_eq (F := Bits)) _ _ (run_kept (F := Bits) m ρ (ok_of_fn (F := Bits) m h))

end Cert.First

end
-- ==== Proof.Adaln.lean ====
/- The adaptive layer norms' maps: each layer's map of each row of conditions, on the kernel's side block by block and
   on the reference's side layer by layer, is the gated row times the layer's weights, plus its bias. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim
public import proofs.«01_k».proof.Defs

@[expose] public section

set_option maxRecDepth 16384

noncomputable section

namespace Cert.Adaln

open Idealize.ShloMosaic Idealize.ShloMosaic.TcCoe Idealize.SL.Sem

/-! ## The formula -/

/-- A number times its logistic. -/
def siluOf (x : EReal) : EReal :=
  x * Ideal.div (Ideal.ofBits .f32 0x3F800000#32) (Ideal.ofBits .f32 0x3F800000#32 + Ideal.exp (-x))

/-- A gated row of conditions times a column of weights, plus its bias. -/
def mapOf (x : Fin 1024 → EReal) (w : Fin 1024 → EReal) (b : EReal) : EReal := (∑ k, siluOf (x k) * w k) + b

/-! ## The reference's side -/

section Reference
open Cert.Reference4Ideal Cert.Reference4Ideal.Gen

/-- One layer's map, from its weights and bias. -/
def layer (x : FVec Ideal S16x1024 .f32) (w : FVec Ideal S1x1024x6144 .f32) (b : FVec Ideal S1x6144 .f32) : FVec Ideal S1x16x6144 .f32 :=
  broadcastInDim S1x16x6144 ![1, 2] bcast_S16x6144_S1x16x6144_1_2
    (addf (Host.dotGeneral dot_S16x1024_S1024x6144_S16x6144_1_0_0_1_n_n none
        (mulf x (Host.divf (broadcastInDim S16x1024 ![] bcast_S_S16x1024 (constant S_ .f32 0x3F800000#32))
          (addf (broadcastInDim S16x1024 ![] bcast_S_S16x1024 (constant S_ .f32 0x3F800000#32)) (Host.exp (Host.negf x)))))
        (shapeCast _ w shapeCasts_S1x1024x6144_S1024x6144))
      (broadcastInDim S16x6144 ![0, 1] bcast_S1x6144_S16x6144_0_1 (broadcastInDim S1x6144 ![1] bcast_S6144_S1x6144_1 (shapeCast _ b shapeCasts_S1x6144_S6144))))

/-- Both layers' maps, one above the other. -/
def result (x : FVec Ideal S16x1024 .f32) (w : FVec Ideal S2x1024x6144 .f32) (b : FVec Ideal S2x6144 .f32) : FVec Ideal S2x16x6144 .f32 :=
  concatenate S2x16x6144 0
    [⟨S1x16x6144, layer x (extractStridedSlice S1x1024x6144 ![0, 0, 0] w slices_S2x1024x6144_S1x1024x6144_0_0_0) (extractStridedSlice S1x6144 ![0, 0] b slices_S2x6144_S1x6144_0_0)⟩,
     ⟨S1x16x6144, layer x (extractStridedSlice S1x1024x6144 ![1, 0, 0] w slices_S2x1024x6144_S1x1024x6144_1_0_0) (extractStridedSlice S1x6144 ![1, 0] b slices_S2x6144_S1x6144_1_0)⟩]
    concatenates_S1x16x6144_S1x16x6144_S2x16x6144_d0

theorem layer_at (x : FVec Ideal S16x1024 .f32) (w : FVec Ideal S1x1024x6144 .f32) (b : FVec Ideal S1x6144 .f32) (r : Fin 16) (j : Fin 6144) :
    layer x w b (ix3 0 r j) = mapOf (fun k => x (ix2 r k)) (fun k => w (ix3 0 k j)) (b (ix2 0 j)) := by
  pointwise [layer, mapOf, siluOf]

theorem result_at (x : FVec Ideal S16x1024 .f32) (w : FVec Ideal S2x1024x6144 .f32) (b : FVec Ideal S2x6144 .f32) (l : Fin 2) (r : Fin 16) (j : Fin 6144) :
    result x w b (ix3 l r j) = mapOf (fun k => x (ix2 r k)) (fun k => w (ix3 l k j)) (b (ix2 l j)) := by
  have key : ∀ y0 y1 : FVec Ideal S1x16x6144 .f32, concatenate S2x16x6144 0 [⟨S1x16x6144, y0⟩, ⟨S1x16x6144, y1⟩] concatenates_S1x16x6144_S1x16x6144_S2x16x6144_d0 (ix3 l r j)
      = if l = 0 then y0 (ix3 0 r j) else y1 (ix3 0 r j) := by
    intro y0 y1
    fin_cases l <;> pointwise []
  refine (key _ _).trans ?_
  fin_cases l
  · refine (if_pos rfl).trans ((layer_at ..).trans ?_)
    pointwise []
  · refine (if_neg (by decide)).trans ((layer_at ..).trans ?_)
    pointwise []

end Reference

/-! ## The kernel's side -/

open Idealize.ShloMosaic.Pipeline (Dat)
open Cert.Kernel4Ideal Cert.Kernel4Ideal.Gen

variable (m : (ℓ : Loc nD τ sig) → Buf (Elt Ideal) ℓ)

/-- The arguments, at their literal types. -/
abbrev cond (c : Dev nD) : FVec Ideal S16x1024 .f32 := m (c, Proc.tc.devRef main_arg0)
abbrev weights (c : Dev nD) : FVec Ideal S2x1024x6144 .f32 := m (c, Proc.tc.devRef main_arg1)
abbrev bias (c : Dev nD) : FVec Ideal S2x6144 .f32 := m (c, Proc.tc.devRef main_arg2)

/-- The windows' block indices at every point: the layer, then the block of columns. -/
theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] ∧ t.val < 12 :=
  (by decide +kernel : ∀ t : Fin grid0.N, _)

theorem lt12 (t : Fin cfg0.N) : t.val < 12 := (idx t).2.2.2.2

/-- A point's layer, and a column of its block in the whole map. -/
abbrev lay (t : Fin cfg0.N) : Fin 2 := ⟨t.val / 6, by have := lt12 t; omega⟩
abbrev col (t : Fin cfg0.N) (j : Fin 1024) : Fin 6144 := ⟨t.val % 6 * 1024 + j.val, by omega⟩

theorem read0 (c : Dev nD) (t : Fin cfg0.N) (r : Fin 16) (k : Fin 1024) :
    (show FVec Ideal S16x1024 .f32 from iblk m c 0 t) (ix2 r k) = cond m c (ix2 r k) := by
  refine Eq.trans ?_ (congrFun (V_main_arg0 m c) _)
  blk_simp [iblk]
  refine congrArg (V m c main_arg0) ?_
  funext a
  fin_cases a <;> (apply Fin.ext; blk_simp [idx t] <;> try omega)
  all_goals rfl

theorem read1 (c : Dev nD) (t : Fin cfg0.N) (k j : Fin 1024) :
    (show FVec Ideal S1x1024x1024 .f32 from iblk m c 1 t) (ix3 0 k j) = weights m c (ix3 (lay t) k (col t j)) := by
  refine Eq.trans ?_ (congrFun (V_main_arg1 m c) _)
  unfold lay col
  blk_simp [iblk]
  refine congrArg (V m c main_arg1) ?_
  funext a
  fin_cases a <;> (apply Fin.ext; blk_simp [idx t] <;> try omega)
  all_goals rfl

theorem bias_at (c : Dev nD) (l : Fin 2) (j : Fin 6144) : (show FVec Ideal S2x1x6144 .f32 from V m c main_v0) (ix3 l 0 j) = bias m c (ix2 l j) := by
  entry_read
  pointwise []

theorem read2 (c : Dev nD) (t : Fin cfg0.N) (j : Fin 1024) :
    (show FVec Ideal S1x1x1024 .f32 from iblk m c 2 t) (ix3 0 0 j) = bias m c (ix2 (lay t) (col t j)) := by
  refine Eq.trans ?_ (bias_at m c _ _)
  unfold lay col
  blk_simp [iblk]
  refine congrArg (V m c main_v0) ?_
  funext a
  fin_cases a <;> (apply Fin.ext; blk_simp [idx t] <;> try omega)
  all_goals rfl

/-- What the body stores, at an index. -/
theorem pay_at (x : FVec Ideal S16x1024 .f32) (w : FVec Ideal S1x1024x1024 .f32) (b : FVec Ideal S1x1x1024 .f32) (r : Fin 16) (j : Fin 1024) :
    k0_pay1 (F := Ideal) x w b (ix3 0 r j) = mapOf (fun k => x (ix2 r k)) (fun k => w (ix3 0 k j)) (b (ix3 0 0 j)) := by
  pointwise [k0_pay1, mapOf, siluOf]
  simp only [zero_sub]

/-- One store of a whole block leaves what it stores, of the whole blocks it loads. -/
theorem out_eq (x : FVec Ideal S16x1024 .f32) (w : FVec Ideal S1x1024x1024 .f32) (b : FVec Ideal S1x1x1024 .f32) (r : Fin 16) (j : Fin 1024) :
    out0_3 (F := Ideal) x w b (ix3 0 r j) = k0_pay1 (F := Ideal) x w b (ix3 0 r j) := by
  refine congrFun ((View.canon_cons_unit_lit inb_S1x16x1024_S1x16x1024_0_0_0 _ [] (by decide)).trans ?_) _
  have hx : View.ld (Val := Elt Ideal) (e' := .f32) x r0_0 = x := View.ld_unit_lit (Val := Elt Ideal) (S := S16x1024) (e := .f32) (off := ![0, 0]) inb_S16x1024_S16x1024_0_0 x (by decide)
  have hw : View.ld (Val := Elt Ideal) (e' := .f32) w r0_1 = w := View.ld_unit_lit (Val := Elt Ideal) (S := S1x1024x1024) (e := .f32) (off := ![0, 0, 0]) inb_S1x1024x1024_S1x1024x1024_0_0_0 w (by decide)
  have hb : View.ld (Val := Elt Ideal) (e' := .f32) b r0_2 = b := View.ld_unit_lit (Val := Elt Ideal) (S := S1x1x1024) (e := .f32) (off := ![0, 0, 0]) inb_S1x1x1024_S1x1x1024_0_0_0 b (by decide)
  exact congr (congrArg₂ (k0_pay1 (F := Ideal)) hx hw) hb

/-- The reference's result of device `c`'s arguments. -/
abbrev refOut (c : Dev nD) : FVec Ideal S2x16x6144 .f32 := result (cond m c) (weights m c) (bias m c)

/-- What the body leaves in the output's buffer at a point is the reference's block. -/
theorem point (c : Dev nD) (t : Fin cfg0.N) (r : Fin 16) (j : Fin 1024) :
    out0_3 (iblk m c 0 t) (iblk m c 1 t) (iblk m c 2 t) (ix3 0 r j) = refOut m c (ix3 (lay t) r (col t j)) := by
  refine (out_eq _ _ _ r j).trans ((pay_at _ _ _ r j).trans (Eq.trans ?_ (result_at _ _ _ _ _ _).symm))
  exact congr (congrArg₂ mapOf (funext fun k => read0 m c t r k) (funext fun k => read1 m c t k j)) (read2 m c t j)

/-- The blocks written back cover the array. -/
theorem covers : (cfg0.win 3).Covers := by decide +kernel

theorem final (c : Dev nD) : (dats m 0 c).arrAt 3 cfg0.N = refOut m c := by
  refine (dats m 0 c).arrAt_eq_of_covers 3 _ covers fun t _ y => ?_
  blk_simp
  rw [after0_3]
  obtain ⟨z, r, j, rfl⟩ : ∃ (z : Fin 1) (r : Fin 16) (j : Fin 1024), y = ix3 z r j := ⟨_, _, _, eq_ix3 y⟩
  obtain rfl : z = 0 := Subsingleton.elim _ _
  refine (point m c t r j).trans ?_
  refine congrArg (refOut m c) ?_
  funext a
  fin_cases a <;> (apply Fin.ext; blk_simp [idx t] <;> try omega)
  all_goals rfl

/-- Both programs end with the reference's result of the kernel's arguments. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2⟩ := hagree c
  rw [h0, h1, h2]
  exact (final m c).symm

end Cert.Adaln

end
-- ==== Proof.lean ====
module

public import proofs.«01_k».proof.Proof.Gen.KernelIdeal.Value
public import proofs.«01_k».proof.Proof.Gen.ReferenceIdeal.Run
public import proofs.«01_k».proof.Proof.Gen.Pre_finite
public import proofs.«01_k».proof.Proof.Final
public import proofs.«01_k».proof.Defs
public import proofs.«01_k».proof.Proof.MoeFinal
public import proofs.«01_k».proof.Proof.MoeSame
public import proofs.«01_k».proof.Proof.FirstFinal
public import proofs.«01_k».proof.Proof.FirstSame
public import proofs.«01_k».proof.Proof.Adaln
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel3
public import proofs.«01_k».proof.Proof.Gen.Kernel3Ideal
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference2Ideal
public import proofs.«01_k».proof.Proof.Gen.Reference2Ideal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_pre : Cert.quiescent_ReferenceIdeal_pre_finite (hPre_finite := Cert.Pre_finite.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "qscale" .f32 0x3E38AA3B#32 ((8⁻¹ * (Real.log 2)⁻¹ : ℝ) : EReal) rfl

/-- Both programs end with the reference's result of the kernel's arguments. -/
theorem algebraic : Cert.algebraic_KernelIdeal_ReferenceIdeal_pre_finite (hPre_finite := Cert.Pre_finite.Gen.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Ref.result_eq, h0, h1, h2, h3, h4, h5, h6, h7, h8, h9]
  exact (final m c (reals_of_pre m hpre c)).symm

/-! ## The experts' calls -/

theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_ri2_pre : Cert.quiescent_Reference2Ideal_pre_experts (hPre_experts := Cert.Pre_experts.Gen.facts) := fun m ρ _ => frame_ri2 m ρ trivial

theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_ri3_pre : Cert.quiescent_Reference3Ideal_pre_experts (hPre_experts := Cert.Pre_experts.Gen.facts) := fun m ρ _ => frame_ri3 m ρ trivial

/-! ## The call of the adaptive layer norms' maps -/

theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, Cert.Pre_experts.Gen.facts,
    frame_p, frame_pi, fun m ρ _ => Cert.KernelIdeal.Gen.frame m ρ, frame_ri, frame_ri_pre,
    Cert.Moe.frame_kernel2, Cert.Moe.frame_kernel2Ideal, frame_ri2, frame_ri2_pre,
    Cert.First.frame_kernel3, Cert.First.frame_kernel3Ideal, frame_ri3, frame_ri3_pre,
    fun m ρ _ => Cert.Kernel4.Gen.frame m ρ, fun m ρ _ => Cert.Kernel4Ideal.Gen.frame m ρ, frame_ri4,
    preserves, algebraic, trivial, Cert.Moe.algebraic, trivial, Cert.First.algebraic, trivial, Cert.Adaln.algebraic⟩

end Cert.Proof

end
